-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x32x32x32 : Shape := ⟨5, ![8, 256, 32, 32, 32]⟩
abbrev S8x256 : Shape := ⟨2, ![8, 256]⟩
abbrev S8x1x256 : Shape := ⟨3, ![8, 1, 256]⟩
abbrev S8x32x32x32x256 : Shape := ⟨5, ![8, 32, 32, 32, 256]⟩
abbrev S8x32768x256 : Shape := ⟨3, ![8, 32768, 256]⟩
abbrev S7x8192x256 : Shape := ⟨3, ![7, 8192, 256]⟩
abbrev S2x256 : Shape := ⟨2, ![2, 256]⟩
abbrev S1x256 : Shape := ⟨2, ![1, 256]⟩
abbrev S7 : Shape := ⟨1, ![7]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩
abbrev S1x1x256 : Shape := ⟨3, ![1, 1, 256]⟩
abbrev S1x256x1 : Shape := ⟨3, ![1, 256, 1]⟩
abbrev S1x256x256 : Shape := ⟨3, ![1, 256, 256]⟩

abbrev nBuf : Space → Nat
  | .hbm => 10
  | .vmem => 5
  | .smem => 0
  | _ => 0

abbrev bufTy : (tb : Table) → Fin (tcTables nBuf tb) → BufTy
  | .hbm, ⟨0, _⟩ => ⟨S8x256x32x32x32, .f32⟩
  | .hbm, ⟨1, _⟩ => ⟨S8x256, .f32⟩
  | .hbm, ⟨2, _⟩ => ⟨S8x1x256, .f32⟩
  | .hbm, ⟨3, _⟩ => ⟨S8x256, .f32⟩
  | .hbm, ⟨4, _⟩ => ⟨S8x1x256, .f32⟩
  | .hbm, ⟨5, _⟩ => ⟨S8x32x32x32x256, .f32⟩
  | .hbm, ⟨6, _⟩ => ⟨S8x32768x256, .f32⟩
  | .hbm, ⟨7, _⟩ => ⟨S8x32768x256, .f32⟩
  | .hbm, ⟨8, _⟩ => ⟨S8x32x32x32x256, .f32⟩
  | .hbm, ⟨9, _⟩ => ⟨S8x256x32x32x32, .f32⟩
  | .local _ .vmem, ⟨0, _⟩ => ⟨S8x1x256, .f32⟩
  | .local _ .vmem, ⟨1, _⟩ => ⟨S8x1x256, .f32⟩
  | .local _ .vmem, ⟨2, _⟩ => ⟨S7x8192x256, .f32⟩
  | .local _ .vmem, ⟨3, _⟩ => ⟨S2x256, .f32⟩
  | .local _ .vmem, ⟨4, _⟩ => ⟨S1x256, .f32⟩
  | _, _ => ⟨S8x256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v5 : BitVec 1 := Scalar.cmpi .sge v1 c1_i32
  let c2_i32 : BitVec 32 := 2#32
  let v6 : BitVec 32 := Scalar.addi v1 c2_i32
  let c32_i32 : BitVec 32 := 32#32
  let v7 : BitVec 1 := Scalar.cmpi .slt v6 c32_i32
  let v8 : BitVec 1 := Scalar.andi v5 v7
  let v9 : BitVec 32 := Scalar.extui v8
  let c0_i32_1 : BitVec 32 := 0#32
  let v10 : BitVec 1 := Scalar.cmpi .ne v9 c0_i32_1
  v10

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_9 : BitVec 32 := 2#32
  let v25 : BitVec 32 := Scalar.addi v1 c2_i32_9
  let c7_i32 : BitVec 32 := 7#32
  let v26 : BitVec 1 := Scalar.cmpi .sge v25 c7_i32
  let v27 : BitVec 32 := Scalar.extui v26
  let c0_i32_10 : BitVec 32 := 0#32
  let v28 : BitVec 1 := Scalar.cmpi .ne v27 c0_i32_10
  v28

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_34 : BitVec 32 := 2#32
  let v74 : BitVec 32 := Scalar.addi v1 c2_i32_34
  let c7_i32_35 : BitVec 32 := 7#32
  let v75 : BitVec 32 := Scalar.subi v74 c7_i32_35
  let c7_i32_49 : BitVec 32 := 7#32
  let c0_i32_50 : BitVec 32 := 0#32
  let v103 : BitVec 1 := Scalar.cmpi .eq c7_i32_49 c0_i32_50
  let c1_i32_51 : BitVec 32 := 1#32
  let v104 : BitVec 32 := Scalar.select v103 c1_i32_51 c7_i32_49
  let v105 : BitVec 32 := Scalar.remsi v75 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  ![v112.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_34 : BitVec 32 := 2#32
  let v74 : BitVec 32 := Scalar.addi v1 c2_i32_34
  let c7_i32_35 : BitVec 32 := 7#32
  let v75 : BitVec 32 := Scalar.subi v74 c7_i32_35
  let c0_i32_37 : BitVec 32 := 0#32
  let v77 : BitVec 1 := Scalar.cmpi .sgt v75 c0_i32_37
  let v78 : BitVec 32 := Scalar.extui v77
  let c0_i32_38 : BitVec 32 := 0#32
  let v79 : BitVec 1 := Scalar.cmpi .slt v75 c0_i32_38
  let v80 : BitVec 32 := Scalar.extui v79
  let v81 : BitVec 32 := Scalar.subi v78 v80
  let c4_i32_36 : BitVec 32 := 4#32
  let c0_i32_39 : BitVec 32 := 0#32
  let v82 : BitVec 1 := Scalar.cmpi .sgt c4_i32_36 c0_i32_39
  let v83 : BitVec 32 := Scalar.extui v82
  let c0_i32_40 : BitVec 32 := 0#32
  let v84 : BitVec 1 := Scalar.cmpi .slt c4_i32_36 c0_i32_40
  let v85 : BitVec 32 := Scalar.extui v84
  let v86 : BitVec 32 := Scalar.subi v83 v85
  let v87 : BitVec 1 := Scalar.cmpi .ne v81 v86
  let v88 : BitVec 32 := Scalar.remsi v75 c4_i32_36
  let c0_i32_41 : BitVec 32 := 0#32
  let v89 : BitVec 1 := Scalar.cmpi .ne v88 c0_i32_41
  let v90 : BitVec 1 := Scalar.andi v87 v89
  let v76 : BitVec 32 := Scalar.divsi v75 c4_i32_36
  let c1_i32_42 : BitVec 32 := 1#32
  let v91 : BitVec 32 := Scalar.subi v76 c1_i32_42
  let v92 : BitVec 32 := Scalar.select v90 v91 v76
  let c4_i32_43 : BitVec 32 := 4#32
  let c0_i32_44 : BitVec 32 := 0#32
  let v93 : BitVec 1 := Scalar.cmpi .eq c4_i32_43 c0_i32_44
  let c1_i32_45 : BitVec 32 := 1#32
  let v94 : BitVec 32 := Scalar.select v93 c1_i32_45 c4_i32_43
  let v95 : BitVec 32 := Scalar.remsi v75 v94
  let c0_i32_47 : BitVec 32 := 0#32
  let v97 : BitVec 1 := Scalar.cmpi .slt v95 c0_i32_47
  let c0_i32_48 : BitVec 32 := 0#32
  let v98 : BitVec 1 := Scalar.cmpi .slt v94 c0_i32_48
  let v99 : BitVec 1 := Scalar.xori v97 v98
  let c0_i32_46 : BitVec 32 := 0#32
  let v96 : BitVec 1 := Scalar.cmpi .ne v95 c0_i32_46
  let v100 : BitVec 1 := Scalar.andi v99 v96
  let v101 : BitVec 32 := Scalar.addi v95 v94
  let v102 : BitVec 32 := Scalar.select v100 v101 v95
  let c8192_i32_55 : BitVec 32 := 8192#32
  let v113 : BitVec 32 := Scalar.muli v102 c8192_i32_55
  let c0_i32_56 : BitVec 32 := 0#32
  ![v92.toNat, v113.toNat, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_34 : BitVec 32 := 2#32
  let v74 : BitVec 32 := Scalar.addi v1 c2_i32_34
  let c7_i32_35 : BitVec 32 := 7#32
  let v75 : BitVec 32 := Scalar.subi v74 c7_i32_35
  let c7_i32_49 : BitVec 32 := 7#32
  let c0_i32_50 : BitVec 32 := 0#32
  let v103 : BitVec 1 := Scalar.cmpi .eq c7_i32_49 c0_i32_50
  let c1_i32_51 : BitVec 32 := 1#32
  let v104 : BitVec 32 := Scalar.select v103 c1_i32_51 c7_i32_49
  let v105 : BitVec 32 := Scalar.remsi v75 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let c0_i32_57 : BitVec 32 := 0#32
  let c0_i32_58 : BitVec 32 := 0#32
  ![v112.toNat, 0, 0]
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_11 : BitVec 32 := 2#32
  let v29 : BitVec 32 := Scalar.addi v1 c2_i32_11
  let c7_i32_25 : BitVec 32 := 7#32
  let c0_i32_26 : BitVec 32 := 0#32
  let v57 : BitVec 1 := Scalar.cmpi .eq c7_i32_25 c0_i32_26
  let c1_i32_27 : BitVec 32 := 1#32
  let v58 : BitVec 32 := Scalar.select v57 c1_i32_27 c7_i32_25
  let v59 : BitVec 32 := Scalar.remsi v29 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  ![v66.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_11 : BitVec 32 := 2#32
  let v29 : BitVec 32 := Scalar.addi v1 c2_i32_11
  let c7_i32_25 : BitVec 32 := 7#32
  let c0_i32_26 : BitVec 32 := 0#32
  let v57 : BitVec 1 := Scalar.cmpi .eq c7_i32_25 c0_i32_26
  let c1_i32_27 : BitVec 32 := 1#32
  let v58 : BitVec 32 := Scalar.select v57 c1_i32_27 c7_i32_25
  let v59 : BitVec 32 := Scalar.remsi v29 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c0_i32_31 : BitVec 32 := 0#32
  let c0_i32_32 : BitVec 32 := 0#32
  ![v66.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_11 : BitVec 32 := 2#32
  let v29 : BitVec 32 := Scalar.addi v1 c2_i32_11
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let v30 : BitVec 32 := Scalar.divsi v29 c4_i32_12
  let c1_i32_18 : BitVec 32 := 1#32
  let v45 : BitVec 32 := Scalar.subi v30 c1_i32_18
  let v46 : BitVec 32 := Scalar.select v44 v45 v30
  let c4_i32_19 : BitVec 32 := 4#32
  let c0_i32_20 : BitVec 32 := 0#32
  let v47 : BitVec 1 := Scalar.cmpi .eq c4_i32_19 c0_i32_20
  let c1_i32_21 : BitVec 32 := 1#32
  let v48 : BitVec 32 := Scalar.select v47 c1_i32_21 c4_i32_19
  let v49 : BitVec 32 := Scalar.remsi v29 v48
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let c0_i32_22 : BitVec 32 := 0#32
  let v50 : BitVec 1 := Scalar.cmpi .ne v49 c0_i32_22
  let v54 : BitVec 1 := Scalar.andi v53 v50
  let v55 : BitVec 32 := Scalar.addi v49 v48
  let v56 : BitVec 32 := Scalar.select v54 v55 v49
  let c8192_i32 : BitVec 32 := 8192#32
  let v67 : BitVec 32 := Scalar.muli v56 c8192_i32
  let c0_i32_33 : BitVec 32 := 0#32
  ![v46.toNat, v67.toNat, 0]
def k0_cond4 (i : grid0.Coords) : BitVec 1 :=
  let arg0 : BitVec 32 := BitVec.ofNat 32 (i 0).val
  let c1_i32_2 : BitVec 32 := 1#32
  let v11 : BitVec 1 := Scalar.cmpi .sge arg0 c1_i32_2
  let arg1 : BitVec 32 := BitVec.ofNat 32 (i 1).val
  let c0_i32_3 : BitVec 32 := 0#32
  let v12 : BitVec 1 := Scalar.cmpi .eq arg1 c0_i32_3
  let v13 : BitVec 1 := Scalar.andi v11 v12
  let v14 : BitVec 32 := Scalar.extui v13
  let c0_i32_4 : BitVec 32 := 0#32
  let v15 : BitVec 1 := Scalar.cmpi .ne v14 c0_i32_4
  v15

def k0_off7 (i : grid0.Coords) : Fin 2 → Nat :=
  let arg0 : BitVec 32 := BitVec.ofNat 32 (i 0).val
  let c1_i32_9 : BitVec 32 := 1#32
  let v25 : BitVec 32 := Scalar.addi arg0 c1_i32_9
  let c2_i32_10 : BitVec 32 := 2#32
  let c0_i32_11 : BitVec 32 := 0#32
  let v26 : BitVec 1 := Scalar.cmpi .eq c2_i32_10 c0_i32_11
  let c1_i32_12 : BitVec 32 := 1#32
  let v27 : BitVec 32 := Scalar.select v26 c1_i32_12 c2_i32_10
  let v28 : BitVec 32 := Scalar.remsi v25 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let v36 : Index := Scalar.indexCast v35
  let c0 : Index := 0#32
  ![v36.toNat, 0]
def k0_off8 (i : grid0.Coords) : Fin 3 → Nat :=
  let arg0 : BitVec 32 := BitVec.ofNat 32 (i 0).val
  let c1_i32_16 : BitVec 32 := 1#32
  let v40 : BitVec 32 := Scalar.subi arg0 c1_i32_16
  let v41 : Index := Scalar.indexCast v40
  let c0_17 : Index := 0#32
  let c0_18 : Index := 0#32
  ![v41.toNat, 0, 0]
def k0_cond5 (i : grid0.Coords) : BitVec 1 :=
  let arg0 : BitVec 32 := BitVec.ofNat 32 (i 0).val
  let c1_i32_5 : BitVec 32 := 1#32
  let v16 : BitVec 1 := Scalar.cmpi .sge arg0 c1_i32_5
  let v17 : BitVec 32 := Scalar.extui v16
  let c0_i32_6 : BitVec 32 := 0#32
  let v18 : BitVec 1 := Scalar.cmpi .ne v17 c0_i32_6
  v18

def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let v25 : BitVec 32 := Scalar.subi v1 c4_i32_9
  let c7_i32 : BitVec 32 := 7#32
  let c0_i32_10 : BitVec 32 := 0#32
  let v26 : BitVec 1 := Scalar.cmpi .eq c7_i32 c0_i32_10
  let c1_i32_11 : BitVec 32 := 1#32
  let v27 : BitVec 32 := Scalar.select v26 c1_i32_11 c7_i32
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v36 : Index := Scalar.indexCast v35
  let c0 : Index := 0#32
  let c0_15 : Index := 0#32
  ![v36.toNat, 0, 0]
def k0_off10 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let v25 : BitVec 32 := Scalar.subi v1 c4_i32_9
  let c7_i32_33 : BitVec 32 := 7#32
  let c0_i32_34 : BitVec 32 := 0#32
  let v73 : BitVec 1 := Scalar.cmpi .eq c7_i32_33 c0_i32_34
  let c1_i32_35 : BitVec 32 := 1#32
  let v74 : BitVec 32 := Scalar.select v73 c1_i32_35 c7_i32_33
  let v75 : BitVec 32 := Scalar.remsi v25 v74
  let c0_i32_37 : BitVec 32 := 0#32
  let v77 : BitVec 1 := Scalar.cmpi .slt v75 c0_i32_37
  let c0_i32_38 : BitVec 32 := 0#32
  let v78 : BitVec 1 := Scalar.cmpi .slt v74 c0_i32_38
  let v79 : BitVec 1 := Scalar.xori v77 v78
  let c0_i32_36 : BitVec 32 := 0#32
  let v76 : BitVec 1 := Scalar.cmpi .ne v75 c0_i32_36
  let v80 : BitVec 1 := Scalar.andi v79 v76
  let v81 : BitVec 32 := Scalar.addi v75 v74
  let v82 : BitVec 32 := Scalar.select v80 v81 v75
  ![v82.toNat]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let v25 : BitVec 32 := Scalar.subi v1 c4_i32_9
  let c0_i32_21 : BitVec 32 := 0#32
  let v47 : BitVec 1 := Scalar.cmpi .sgt v25 c0_i32_21
  let v48 : BitVec 32 := Scalar.extui v47
  let c0_i32_22 : BitVec 32 := 0#32
  let v49 : BitVec 1 := Scalar.cmpi .slt v25 c0_i32_22
  let v50 : BitVec 32 := Scalar.extui v49
  let v51 : BitVec 32 := Scalar.subi v48 v50
  let c4_i32_20 : BitVec 32 := 4#32
  let c0_i32_23 : BitVec 32 := 0#32
  let v52 : BitVec 1 := Scalar.cmpi .sgt c4_i32_20 c0_i32_23
  let v53 : BitVec 32 := Scalar.extui v52
  let c0_i32_24 : BitVec 32 := 0#32
  let v54 : BitVec 1 := Scalar.cmpi .slt c4_i32_20 c0_i32_24
  let v55 : BitVec 32 := Scalar.extui v54
  let v56 : BitVec 32 := Scalar.subi v53 v55
  let v57 : BitVec 1 := Scalar.cmpi .ne v51 v56
  let v58 : BitVec 32 := Scalar.remsi v25 c4_i32_20
  let c0_i32_25 : BitVec 32 := 0#32
  let v59 : BitVec 1 := Scalar.cmpi .ne v58 c0_i32_25
  let v60 : BitVec 1 := Scalar.andi v57 v59
  let v46 : BitVec 32 := Scalar.divsi v25 c4_i32_20
  let c1_i32_26 : BitVec 32 := 1#32
  let v61 : BitVec 32 := Scalar.subi v46 c1_i32_26
  let v62 : BitVec 32 := Scalar.select v60 v61 v46
  let c4_i32_27 : BitVec 32 := 4#32
  let c0_i32_28 : BitVec 32 := 0#32
  let v63 : BitVec 1 := Scalar.cmpi .eq c4_i32_27 c0_i32_28
  let c1_i32_29 : BitVec 32 := 1#32
  let v64 : BitVec 32 := Scalar.select v63 c1_i32_29 c4_i32_27
  let v65 : BitVec 32 := Scalar.remsi v25 v64
  let c0_i32_31 : BitVec 32 := 0#32
  let v67 : BitVec 1 := Scalar.cmpi .slt v65 c0_i32_31
  let c0_i32_32 : BitVec 32 := 0#32
  let v68 : BitVec 1 := Scalar.cmpi .slt v64 c0_i32_32
  let v69 : BitVec 1 := Scalar.xori v67 v68
  let c0_i32_30 : BitVec 32 := 0#32
  let v66 : BitVec 1 := Scalar.cmpi .ne v65 c0_i32_30
  let v70 : BitVec 1 := Scalar.andi v69 v66
  let v71 : BitVec 32 := Scalar.addi v65 v64
  let v72 : BitVec 32 := Scalar.select v70 v71 v65
  let c8192_i32 : BitVec 32 := 8192#32
  let v83 : BitVec 32 := Scalar.muli v72 c8192_i32
  let c0_i32_39 : BitVec 32 := 0#32
  ![v62.toNat, v83.toNat, 0]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let v25 : BitVec 32 := Scalar.subi v1 c4_i32_9
  let c7_i32_33 : BitVec 32 := 7#32
  let c0_i32_34 : BitVec 32 := 0#32
  let v73 : BitVec 1 := Scalar.cmpi .eq c7_i32_33 c0_i32_34
  let c1_i32_35 : BitVec 32 := 1#32
  let v74 : BitVec 32 := Scalar.select v73 c1_i32_35 c7_i32_33
  let v75 : BitVec 32 := Scalar.remsi v25 v74
  let c0_i32_37 : BitVec 32 := 0#32
  let v77 : BitVec 1 := Scalar.cmpi .slt v75 c0_i32_37
  let c0_i32_38 : BitVec 32 := 0#32
  let v78 : BitVec 1 := Scalar.cmpi .slt v74 c0_i32_38
  let v79 : BitVec 1 := Scalar.xori v77 v78
  let c0_i32_36 : BitVec 32 := 0#32
  let v76 : BitVec 1 := Scalar.cmpi .ne v75 c0_i32_36
  let v80 : BitVec 1 := Scalar.andi v79 v76
  let v81 : BitVec 32 := Scalar.addi v75 v74
  let v82 : BitVec 32 := Scalar.select v80 v81 v75
  let c0_i32_40 : BitVec 32 := 0#32
  let c0_i32_41 : BitVec 32 := 0#32
  ![v82.toNat, 0, 0]
def k0_cond6 (i : grid0.Coords) : BitVec 1 :=
  let arg0 : BitVec 32 := BitVec.ofNat 32 (i 0).val
  let c8_i32 : BitVec 32 := 8#32
  let v19 : BitVec 1 := Scalar.cmpi .slt arg0 c8_i32
  let v20 : BitVec 32 := Scalar.extui v19
  let c0_i32_7 : BitVec 32 := 0#32
  let v21 : BitVec 1 := Scalar.cmpi .ne v20 c0_i32_7
  v21

def k0_off13 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c7_i32 : BitVec 32 := 7#32
  let c0_i32_22 : BitVec 32 := 0#32
  let v52 : BitVec 1 := Scalar.cmpi .eq c7_i32 c0_i32_22
  let c1_i32_23 : BitVec 32 := 1#32
  let v53 : BitVec 32 := Scalar.select v52 c1_i32_23 c7_i32
  let v54 : BitVec 32 := Scalar.remsi v1 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  ![v61.toNat]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c7_i32 : BitVec 32 := 7#32
  let c0_i32_22 : BitVec 32 := 0#32
  let v52 : BitVec 1 := Scalar.cmpi .eq c7_i32 c0_i32_22
  let c1_i32_23 : BitVec 32 := 1#32
  let v53 : BitVec 32 := Scalar.select v52 c1_i32_23 c7_i32
  let v54 : BitVec 32 := Scalar.remsi v1 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c0_i32_27 : BitVec 32 := 0#32
  let c0_i32_28 : BitVec 32 := 0#32
  ![v61.toNat, 0, 0]
def k0_off15 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_10 : BitVec 32 := 0#32
  let v26 : BitVec 1 := Scalar.cmpi .sgt v1 c0_i32_10
  let v27 : BitVec 32 := Scalar.extui v26
  let c0_i32_11 : BitVec 32 := 0#32
  let v28 : BitVec 1 := Scalar.cmpi .slt v1 c0_i32_11
  let v29 : BitVec 32 := Scalar.extui v28
  let v30 : BitVec 32 := Scalar.subi v27 v29
  let c4_i32_9 : BitVec 32 := 4#32
  let c0_i32_12 : BitVec 32 := 0#32
  let v31 : BitVec 1 := Scalar.cmpi .sgt c4_i32_9 c0_i32_12
  let v32 : BitVec 32 := Scalar.extui v31
  let c0_i32_13 : BitVec 32 := 0#32
  let v33 : BitVec 1 := Scalar.cmpi .slt c4_i32_9 c0_i32_13
  let v34 : BitVec 32 := Scalar.extui v33
  let v35 : BitVec 32 := Scalar.subi v32 v34
  let v36 : BitVec 1 := Scalar.cmpi .ne v30 v35
  let v37 : BitVec 32 := Scalar.remsi v1 c4_i32_9
  let c0_i32_14 : BitVec 32 := 0#32
  let v38 : BitVec 1 := Scalar.cmpi .ne v37 c0_i32_14
  let v39 : BitVec 1 := Scalar.andi v36 v38
  let v25 : BitVec 32 := Scalar.divsi v1 c4_i32_9
  let c1_i32_15 : BitVec 32 := 1#32
  let v40 : BitVec 32 := Scalar.subi v25 c1_i32_15
  let v41 : BitVec 32 := Scalar.select v39 v40 v25
  let c4_i32_16 : BitVec 32 := 4#32
  let c0_i32_17 : BitVec 32 := 0#32
  let v42 : BitVec 1 := Scalar.cmpi .eq c4_i32_16 c0_i32_17
  let c1_i32_18 : BitVec 32 := 1#32
  let v43 : BitVec 32 := Scalar.select v42 c1_i32_18 c4_i32_16
  let v44 : BitVec 32 := Scalar.remsi v1 v43
  let c0_i32_20 : BitVec 32 := 0#32
  let v46 : BitVec 1 := Scalar.cmpi .slt v44 c0_i32_20
  let c0_i32_21 : BitVec 32 := 0#32
  let v47 : BitVec 1 := Scalar.cmpi .slt v43 c0_i32_21
  let v48 : BitVec 1 := Scalar.xori v46 v47
  let c0_i32_19 : BitVec 32 := 0#32
  let v45 : BitVec 1 := Scalar.cmpi .ne v44 c0_i32_19
  let v49 : BitVec 1 := Scalar.andi v48 v45
  let v50 : BitVec 32 := Scalar.addi v44 v43
  let v51 : BitVec 32 := Scalar.select v49 v50 v44
  let c8192_i32 : BitVec 32 := 8192#32
  let v62 : BitVec 32 := Scalar.muli v51 c8192_i32
  let c0_i32_29 : BitVec 32 := 0#32
  ![v41.toNat, v62.toNat, 0]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c7_i32_30 : BitVec 32 := 7#32
  let c0_i32_31 : BitVec 32 := 0#32
  let v69 : BitVec 1 := Scalar.cmpi .eq c7_i32_30 c0_i32_31
  let c1_i32_32 : BitVec 32 := 1#32
  let v70 : BitVec 32 := Scalar.select v69 c1_i32_32 c7_i32_30
  let v71 : BitVec 32 := Scalar.remsi v1 v70
  let c0_i32_34 : BitVec 32 := 0#32
  let v73 : BitVec 1 := Scalar.cmpi .slt v71 c0_i32_34
  let c0_i32_35 : BitVec 32 := 0#32
  let v74 : BitVec 1 := Scalar.cmpi .slt v70 c0_i32_35
  let v75 : BitVec 1 := Scalar.xori v73 v74
  let c0_i32_33 : BitVec 32 := 0#32
  let v72 : BitVec 1 := Scalar.cmpi .ne v71 c0_i32_33
  let v76 : BitVec 1 := Scalar.andi v75 v72
  let v77 : BitVec 32 := Scalar.addi v71 v70
  let v78 : BitVec 32 := Scalar.select v76 v77 v71
  let v79 : Index := Scalar.indexCast v78
  let c0 : Index := 0#32
  let c0_36 : Index := 0#32
  ![v79.toNat, 0, 0]
def k0_cond7 (i : grid0.Coords) : BitVec 1 :=
  let arg1 : BitVec 32 := BitVec.ofNat 32 (i 1).val
  let c0_i32_37 : BitVec 32 := 0#32
  let v82 : BitVec 1 := Scalar.cmpi .eq arg1 c0_i32_37
  let v83 : BitVec 32 := Scalar.extui v82
  let c0_i32_38 : BitVec 32 := 0#32
  let v84 : BitVec 1 := Scalar.cmpi .ne v83 c0_i32_38
  v84

def k0_off17 (i : grid0.Coords) : Fin 2 → Nat :=
  let arg0 : BitVec 32 := BitVec.ofNat 32 (i 0).val
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi arg0 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : Index := Scalar.indexCast v97
  let c0_47 : Index := 0#32
  ![v98.toNat, 0]
def k0_cond8 (i : grid0.Coords) : BitVec 1 :=
  let arg1 : BitVec 32 := BitVec.ofNat 32 (i 1).val
  let c0_i32_39 : BitVec 32 := 0#32
  let v85 : BitVec 1 := Scalar.cmpi .ne arg1 c0_i32_39
  let v86 : BitVec 32 := Scalar.extui v85
  let c0_i32_40 : BitVec 32 := 0#32
  let v87 : BitVec 1 := Scalar.cmpi .ne v86 c0_i32_40
  v87

def k0_off18 (i : grid0.Coords) : Fin 2 → Nat :=
  let arg0 : BitVec 32 := BitVec.ofNat 32 (i 0).val
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi arg0 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : Index := Scalar.indexCast v97
  let c0_47 : Index := 0#32
  ![v98.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S8x256x32x32x32 : Shape := ⟨5, ![8, 256, 32, 32, 32]⟩
abbrev S8x256 : Shape := ⟨2, ![8, 256]⟩
abbrev S_ : Shape := ⟨0, ![]⟩
abbrev S8x226 : Shape := ⟨2, ![8, 226]⟩
abbrev S8 : Shape := ⟨1, ![8]⟩
abbrev S8x1 : Shape := ⟨2, ![8, 1]⟩
abbrev S8x226x1 : Shape := ⟨3, ![8, 226, 1]⟩
abbrev S8x226x2 : Shape := ⟨3, ![8, 226, 2]⟩
abbrev S8x256x1x1x1 : Shape := ⟨5, ![8, 256, 1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x256x32x32x32, .f32⟩
  | .hbm, ⟨1, _⟩ => ⟨S8x256, .f32⟩
  | .hbm, ⟨2, _⟩ => ⟨S8x256, .f32⟩
  | .hbm, ⟨3, _⟩ => ⟨S_, .f32⟩
  | .hbm, ⟨4, _⟩ => ⟨S8x256, .f32⟩
  | .hbm, ⟨5, _⟩ => ⟨S_, .f32⟩
  | .hbm, ⟨6, _⟩ => ⟨S8x256, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S8x226, .f32⟩
  | .hbm, ⟨14, _⟩ => ⟨S8x226, .i32⟩
  | .hbm, ⟨15, _⟩ => ⟨S_, .f32⟩
  | .hbm, ⟨16, _⟩ => ⟨S8x256, .f32⟩
  | .hbm, ⟨17, _⟩ => ⟨S8, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i1⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x1, .i32⟩
  | .hbm, ⟨26, _⟩ => ⟨S_, .i32⟩
  | .hbm, ⟨27, _⟩ => ⟨S8x226, .i32⟩
  | .hbm, ⟨28, _⟩ => ⟨S8x226, .i1⟩
  | .hbm, ⟨29, _⟩ => ⟨S_, .i32⟩
  | .hbm, ⟨30, _⟩ => ⟨S8x226, .i32⟩
  | .hbm, ⟨31, _⟩ => ⟨S8x226, .i32⟩
  | .hbm, ⟨32, _⟩ => ⟨S8x226, .i32⟩
  | .hbm, ⟨33, _⟩ => ⟨S8x226, .i32⟩
  | .hbm, ⟨34, _⟩ => ⟨S8x226x1, .i32⟩
  | .hbm, ⟨35, _⟩ => ⟨S8x226x1, .i32⟩
  | .hbm, ⟨36, _⟩ => ⟨S8x226x2, .i32⟩
  | .hbm, ⟨37, _⟩ => ⟨S_, .f32⟩
  | .hbm, ⟨38, _⟩ => ⟨S8x226, .f32⟩
  | .hbm, ⟨39, _⟩ => ⟨S8x256, .f32⟩
  | .hbm, ⟨40, _⟩ => ⟨S_, .f32⟩
  | .hbm, ⟨41, _⟩ => ⟨S8x256, .f32⟩
  | .hbm, ⟨42, _⟩ => ⟨S8x256, .i1⟩
  | .hbm, ⟨43, _⟩ => ⟨S8x256, .f32⟩
  | .hbm, ⟨44, _⟩ => ⟨S8x256, .f32⟩
  | .hbm, ⟨45, _⟩ => ⟨S8x256x1x1x1, .f32⟩
  | .hbm, ⟨46, _⟩ => ⟨S8x256x32x32x32, .f32⟩
  | .hbm, ⟨47, _⟩ => ⟨S8x256x32x32x32, .f32⟩
  | _, _ => ⟨S8x256x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.Ring.lean ====
/-
  The kernel's moving parts, named: the seven slots of the ring in VMEM, the thirty-two chunks of the input and of the
  output (each 8192 rows of one batch), the two semaphores of a slot, what a slot holds while a copy is under way, and
  the rule of each copy, wait, load and store the body makes on them.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.ViewIndex
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Slots and chunks -/

/-- Where slot `s` of the ring starts. -/
abbrev slotOff (s : Fin 7) : Fin 3 → ℕ := ![s.val, 0, 0]
/-- Where chunk `b` starts in the input and in the output: batch `b / 4`, the quarter `b % 4` of its rows. -/
abbrev rowOff (b : Fin 32) : Fin 3 → ℕ := ![b.val / 4, b.val % 4 * 8192, 0]
/-- Where slot `s`'s semaphore stands in its array. -/
abbrev semOff (s : Fin 7) : Fin 1 → ℕ := ![s.val]

theorem slotOff_inb : ∀ (s : Fin 7) a, slotOff s a + S1x8192x256.size a ≤ S7x8192x256.size a := by decide +kernel
theorem rowOff_inb : ∀ (b : Fin 32) a, rowOff b a + S1x8192x256.size a ≤ S8x32768x256.size a := by decide +kernel
theorem semOff_inb : ∀ (s : Fin 7) a, semOff s a + S1.size a ≤ S7.size a := by decide +kernel

/-- The input and the output in HBM, the ring, the running sums and the mask row in VMEM. -/
abbrev mX : Memref sig .tc .hbm S8x32768x256 .f32 := Memref.whole main_v3
abbrev mY : Memref sig .tc .hbm S8x32768x256 .f32 := Memref.whole main_v4
abbrev mD : Memref sig .tc .vmem S7x8192x256 .f32 := Memref.whole cc0_scratch0
abbrev mS : Memref sig .tc .vmem S2x256 .f32 := Memref.whole cc0_scratch1
abbrev mM : Memref sig .tc .vmem S1x256 .f32 := Memref.whole cc0_scratch2

/-- Slot `s` and chunk `b` as rectangles. -/
abbrev slotR (s : Fin 7) : Rect S7x8192x256 := Rect.unit (s := S7x8192x256) (slotOff s) S1x8192x256.size (slotOff_inb s)
abbrev rowR (b : Fin 32) : Rect S8x32768x256 := Rect.unit (s := S8x32768x256) (rowOff b) S1x8192x256.size (rowOff_inb b)

/-- Slot `s`, chunk `b` of the input, chunk `b` of the output: one `1 × 8192 × 256` piece each. -/
abbrev mSlot (s : Fin 7) : Memref sig .tc .vmem S1x8192x256 .f32 := mD.slice (slotR s) (fun _ => rfl)
abbrev mXb (b : Fin 32) : Memref sig .tc .hbm S1x8192x256 .f32 := mX.slice (rowR b) (fun _ => rfl)
abbrev mYb (b : Fin 32) : Memref sig .tc .hbm S1x8192x256 .f32 := mY.slice (rowR b) (fun _ => rfl)

/-- The semaphore on which slot `s` is filled, and the one on which it is emptied. -/
abbrev inS (s : Fin 7) : DmaSem sig :=
  ((cc0_scratch3.slice (Rect.unit (s := S7) (semOff s) S1.size (semOff_inb s))).squeeze S_ squeezes_S1_S_).sem
abbrev outS (s : Fin 7) : DmaSem sig :=
  ((cc0_scratch4.slice (Rect.unit (s := S7) (semOff s) S1.size (semOff_inb s))).squeeze S_ squeezes_S1_S_).sem

variable (c : Dev nD)

/-- Slot `s` held at `f`; chunk `b` of the input, of the output. -/
abbrev slotPt (s : Fin 7) (f : Buf (Elt F) (mD.view.loc (c : Thread nD τ))) : sProp 𝕄 :=
  mD.view.loc (c : Thread nD τ) ↦[(mSlot s).view.set]{fullShare} f
abbrev xPt (b : Fin 32) (f : Buf (Elt F) (mX.view.loc (c : Thread nD τ))) : sProp 𝕄 :=
  mX.view.loc (c : Thread nD τ) ↦[(mXb b).view.set]{fullShare} f
abbrev yPt (b : Fin 32) (f : Buf (Elt F) (mY.view.loc (c : Thread nD τ))) : sProp 𝕄 :=
  mY.view.loc (c : Thread nD τ) ↦[(mYb b).view.set]{fullShare} f

/-- A core's program run to `Q`, nothing else in play. -/
abbrev run {α : Type} (p : Prog (TpuEff nD τ sig (Elt F) Λ₀ .tc) α) (Q : α → sProp 𝕄) : sProp 𝕄 :=
  wp frame (wpE (defs₀ (F := F)) Variants.none (c : Thread nD τ) none) Set.univ p Q

/-! ## One chunk through one slot -/

abbrev sq {sp : Space} (M : Memref sig .tc sp S1x8192x256 .f32) : Memref sig .tc sp S8192x256 .f32 :=
  M.squeeze S8192x256 squeezes_S1x8192x256_S8192x256

/-- What one chunk's copy counts on its semaphore, on the way in and on the way out. -/
abbrev inN : ℕ := (sq (mSlot 0)).view.dmaCredit
abbrev outN : ℕ := (sq (mYb 0)).view.dmaCredit

theorem numel_pos : 0 < S8192x256.numel := by decide +kernel
theorem inN_pos : 0 < inN := View.dmaCredit_pos _ numel_pos
theorem outN_pos : 0 < outN := View.dmaCredit_pos _ numel_pos

/-- A copy of one piece onto another, both seen flat, leaves the second reading what the first reads. -/
theorem read_landed {sp sp' : Space} (M : Memref sig .tc sp S1x8192x256 .f32) (M' : Memref sig .tc sp' S1x8192x256 .f32)
    (f : M.view.ty.Contents (Elt F)) (g : M'.view.ty.Contents (Elt F)) :
    M.view.read (Elt F) ((sq M).view.write (Elt F) f (ReadAs.same.apply ((sq M').view.read (Elt F) g)) Finset.univ)
      = M'.view.read (Elt F) g := by
  funext x
  obtain ⟨y, rfl⟩ := (Shape.reshapeEquiv squeezes_S1x8192x256_S8192x256.numel_eq).surjective x
  exact View.read_write_reshape (v := M.view) _ f _ y

/-- The chunk `b` of contents `X` of the input. -/
abbrev blk (X : Buf (Elt F) (mX.view.loc (c : Thread nD τ))) (b : Fin 32) : S1x8192x256.Idx → Elt F .f32 :=
  (mXb b).view.read (Elt F) X

variable (X : Buf (Elt F) (mX.view.loc (c : Thread nD τ))) (Y₁ : Buf (Elt F) (mY.view.loc (c : Thread nD τ)))

/-- Chunk `b` is on its way into slot `s`; the wait hands back the slot holding it, and the chunk of the input. -/
def comingIn (s : Fin 7) (b : Fin 32) : sProp 𝕄 :=
  Transfers.Flight countersEmb (c : Thread nD τ) (.dma (inS s)) () inN
    iprop((∃ f, slotPt c s f ∗ ⌜(mSlot s).view.read (Elt F) f = blk c X b⌝) ∗ xPt c b X)
/-- Slot `s` is on its way out to chunk `b`; the wait hands back the slot, and the chunk of the output as it is to be. -/
def goingOut (s : Fin 7) (b : Fin 32) : sProp 𝕄 :=
  Transfers.Flight countersEmb (c : Thread nD τ) (.dma (outS s)) () outN
    iprop((∃ f, slotPt c s f) ∗ yPt c b Y₁)

theorem set_sq {sp : Space} (M : Memref sig .tc sp S1x8192x256 .f32) : (sq M).view.set = M.view.set :=
  View.set_reshape (v := M.view) squeezes_S1x8192x256_S8192x256.numel_eq

/-- The copy of chunk `b` into slot `s` starts. -/
theorem start_in {α : Type} (s : Fin 7) (b : Fin 32) {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s) (e₂ : o₂ = slotOff s) (e₃ : o₃ = rowOff b)
    {hsrc hdst hsem} {k : PUnit → Prog (TpuEff nD τ sig (Elt F) Λ₀ .tc) α} {Q : α → sProp 𝕄} :
    iprop((∃ f, slotPt c s f) ∗ xPt c b X ∗ semVal ((c : Thread nD τ), SemLoc.dma (inS s)) 0 ∗ (comingIn c X s b -∗ run c (k ⟨⟩) Q))
      ⊢ run c (.op (.enqueueDma
          (sq (mX.slice (Rect.unit (s := S8x32768x256) o₃ S1x8192x256.size i₃) (fun _ => rfl)))
          (.here (sq (mD.slice (Rect.unit (s := S7x8192x256) o₂ S1x8192x256.size i₂) (fun _ => rfl))))
          (.dma ((cc0_scratch3.slice (Rect.unit (s := S7) o₁ S1.size i₁)).squeeze S_ squeezes_S1_S_).sem) hsrc hdst hsem) k) Q := by
  subst e₁ e₂ e₃
  iintro ⟨⟨%f, Hs⟩, Hx, Hv, Hk⟩
  iapply (Transfers.wp_dmaLocal countersEmb Variants.none (c : Thread nD τ) none (src := sq (mXb b)) (dst := sq (mSlot s)) (q := fullShare)
    (fs := X) (fd := f) (Sd := (mSlot s).view.set) () inN rfl inN_pos (set_sq _).le) $$ [Hs Hx Hv]
  · isplitl [Hx]; · rw [set_sq]; iexact Hx
    isplitl [Hs]; · iexact Hs
    iexact Hv
  iintro Hf
  iapply Hk
  unfold comingIn
  iapply (Transfers.Flight_mono (h := ?_)) $$ Hf
  iintro ⟨Hs, Hx⟩
  isplitl [Hs]
  · iexists _
    isplitl [Hs]; · iexact Hs
    ipureintro; exact read_landed (mSlot s) (mXb b) f X
  · rw [set_sq]; iexact Hx

/-- Contents that read alike on chunk `b` are alike there. -/
theorem yPt_of_read (b : Fin 32) (f g : Buf (Elt F) (mY.view.loc (c : Thread nD τ)))
    (h : (mYb b).view.read (Elt F) f = (mYb b).view.read (Elt F) g) : (yPt c b f : sProp 𝕄) = yPt c b g :=
  pointsTo_congr fun i hi => by
    obtain ⟨x, -, rfl⟩ := Finset.mem_map.mp hi
    exact View.eq_of_read_eq (congrFun h x)

/-- The copy of slot `s` onto chunk `b` of the output starts, the slot holding what the chunk is to hold. -/
theorem start_out {α : Type} (s : Fin 7) (b : Fin 32) {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s) (e₂ : o₂ = slotOff s) (e₃ : o₃ = rowOff b)
    {hsrc hdst hsem} {k : PUnit → Prog (TpuEff nD τ sig (Elt F) Λ₀ .tc) α} {Q : α → sProp 𝕄}
    {f : Buf (Elt F) (mD.view.loc (c : Thread nD τ))} {Y₀ : Buf (Elt F) (mY.view.loc (c : Thread nD τ))}
    (hf : (mSlot s).view.read (Elt F) f = (mYb b).view.read (Elt F) Y₁) :
    iprop(slotPt c s f ∗ yPt c b Y₀ ∗ semVal ((c : Thread nD τ), SemLoc.dma (outS s)) 0 ∗ (goingOut c Y₁ s b -∗ run c (k ⟨⟩) Q))
      ⊢ run c (.op (.enqueueDma
          (sq (mD.slice (Rect.unit (s := S7x8192x256) o₂ S1x8192x256.size i₂) (fun _ => rfl)))
          (.here (sq (mY.slice (Rect.unit (s := S8x32768x256) o₃ S1x8192x256.size i₃) (fun _ => rfl))))
          (.dma ((cc0_scratch4.slice (Rect.unit (s := S7) o₁ S1.size i₁)).squeeze S_ squeezes_S1_S_).sem) hsrc hdst hsem) k) Q := by
  subst e₁ e₂ e₃
  iintro ⟨Hs, Hy, Hv, Hk⟩
  iapply (Transfers.wp_dmaLocal countersEmb Variants.none (c : Thread nD τ) none (src := sq (mSlot s)) (dst := sq (mYb b)) (q := fullShare)
    (fs := f) (fd := Y₀) (Sd := (mYb b).view.set) () outN rfl outN_pos (set_sq _).le) $$ [Hs Hy Hv]
  · isplitl [Hs]; · rw [set_sq]; iexact Hs
    isplitl [Hy]; · iexact Hy
    iexact Hv
  iintro Hf
  iapply Hk
  unfold goingOut
  iapply (Transfers.Flight_mono (h := ?_)) $$ Hf
  iintro ⟨Hy, Hs⟩
  isplitl [Hs]
  · iexists _; rw [set_sq]; iexact Hs
  · rw [← yPt_of_read c b _ Y₁ ((read_landed (mYb b) (mSlot s) Y₀ f).trans hf)]; iexact Hy

/-- The wait for chunk `b` in slot `s`. -/
theorem wait_in {α : Type} (s : Fin 7) (b : Fin 32) {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s)
    {hsrc hdst} {k : PUnit → Prog (TpuEff nD τ sig (Elt F) Λ₀ .tc) α} {Q : α → sProp 𝕄} :
    iprop(comingIn c X s b ∗ (∃ W, owes (c : Thread nD τ) 0 W)
        ∗ (iprop((∃ f, slotPt c s f ∗ ⌜(mSlot s).view.read (Elt F) f = blk c X b⌝) ∗ xPt c b X
            ∗ semVal ((c : Thread nD τ), SemLoc.dma (inS s)) 0 ∗ (∃ W, owes (c : Thread nD τ) 0 W)) -∗ run c (k ⟨⟩) Q))
      ⊢ run c (.op (.waitDma2 ((cc0_scratch3.slice (Rect.unit (s := S7) o₁ S1.size i₁)).squeeze S_ squeezes_S1_S_).sem
          (sq (mX.slice (Rect.unit (s := S8x32768x256) o₃ S1x8192x256.size i₃) (fun _ => rfl)))
          (sq (mD.slice (Rect.unit (s := S7x8192x256) o₂ S1x8192x256.size i₂) (fun _ => rfl))) hsrc hdst) k) Q := by
  subst e₁
  unfold comingIn
  iintro ⟨Hf, ⟨%W, HO⟩, Hk⟩
  iapply (Transfers.wp_waitLocal countersEmb Variants.none (c : Thread nD τ) none (W := W) (N := inN) (hsrc := hsrc) (hdst := hdst) () rfl) $$ [Hf HO]
  · isplitl [Hf] <;> iassumption
  iintro ⟨⟨Hs, Hx⟩, Hv, HO⟩
  iapply Hk
  isplitl [Hs]; · iexact Hs
  isplitl [Hx]; · iexact Hx
  isplitl [Hv]; · iexact Hv
  iexists _; iexact HO

/-- The wait for slot `s` to have left for chunk `b`. -/
theorem wait_out {α : Type} (s : Fin 7) (b : Fin 32) {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s)
    {hsrc hdst} {k : PUnit → Prog (TpuEff nD τ sig (Elt F) Λ₀ .tc) α} {Q : α → sProp 𝕄} :
    iprop(goingOut c Y₁ s b ∗ (∃ W, owes (c : Thread nD τ) 0 W)
        ∗ (iprop((∃ f, slotPt c s f) ∗ yPt c b Y₁
            ∗ semVal ((c : Thread nD τ), SemLoc.dma (outS s)) 0 ∗ (∃ W, owes (c : Thread nD τ) 0 W)) -∗ run c (k ⟨⟩) Q))
      ⊢ run c (.op (.waitDma2 ((cc0_scratch4.slice (Rect.unit (s := S7) o₁ S1.size i₁)).squeeze S_ squeezes_S1_S_).sem
          (sq (mD.slice (Rect.unit (s := S7x8192x256) o₂ S1x8192x256.size i₂) (fun _ => rfl)))
          (sq (mY.slice (Rect.unit (s := S8x32768x256) o₃ S1x8192x256.size i₃) (fun _ => rfl))) hsrc hdst) k) Q := by
  subst e₁
  unfold goingOut
  iintro ⟨Hf, ⟨%W, HO⟩, Hk⟩
  iapply (Transfers.wp_waitLocal countersEmb Variants.none (c : Thread nD τ) none (W := W) (N := outN) (hsrc := hsrc) (hdst := hdst) () rfl) $$ [Hf HO]
  · isplitl [Hf] <;> iassumption
  iintro ⟨⟨Hs, Hy⟩, Hv, HO⟩
  iapply Hk
  isplitl [Hs]; · iexact Hs
  isplitl [Hy]; · iexact Hy
  isplitl [Hv]; · iexact Hv
  iexists _; iexact HO

/-! ## Loads and stores -/

/-- A slot is loaded whole. -/
theorem load_slot {α : Type} (s : Fin 7) {o : Fin 3 → ℕ} {i : ∀ a, o a + S1x8192x256.size a ≤ S7x8192x256.size a} (e : o = slotOff s)
    {hl} {k : (S1x8192x256.Idx → Elt F .f32) → Prog (TpuEff nD τ sig (Elt F) Λ₀ .tc) α} {Q : α → sProp 𝕄}
    {f : Buf (Elt F) (mD.view.loc (c : Thread nD τ))} :
    iprop(slotPt c s f ∗ (slotPt c s f -∗ run c (k ((mSlot s).view.read (Elt F) f)) Q))
      ⊢ run c (.op (.load mD (Rect.unit (s := S7x8192x256) o S1x8192x256.size i).toLoadRect hl) k) Q := by
  subst e
  iintro ⟨Hs, Hk⟩
  iapply (wp_load_rect Variants.none (c : Thread nD τ) none Set.univ (m := mD) (r := slotR s) (S := (mSlot s).view.set) (f := f)
    (Finset.Subset.refl _)) $$ Hs
  iintro Hs
  iapply Hk; iexact Hs

/-- A slot is rewritten whole. -/
theorem store_slot {α : Type} (s : Fin 7) {o : Fin 3 → ℕ} {i : ∀ a, o a + S1x8192x256.size a ≤ S7x8192x256.size a} (e : o = slotOff s)
    (w : S1x8192x256.Idx → Elt F .f32)
    {hx hm} {k : PUnit → Prog (TpuEff nD τ sig (Elt F) Λ₀ .tc) α} {Q : α → sProp 𝕄}
    {f : Buf (Elt F) (mD.view.loc (c : Thread nD τ))} :
    iprop(slotPt c s f ∗ ((∃ g, slotPt c s g ∗ ⌜(mSlot s).view.read (Elt F) g = w⌝) -∗ run c (k ⟨⟩) Q))
      ⊢ run c (.op (.store mD (Rect.unit (s := S7x8192x256) o S1x8192x256.size i) w Finset.univ hx hm) k) Q := by
  subst e
  iintro ⟨Hs, Hk⟩
  iapply (wp_store Variants.none (c : Thread nD τ) none Set.univ (m := mD) (r := slotR s) (S := (mSlot s).view.set) (f := f)
    (by rw [View.setOn_univ])) $$ Hs
  iintro Hs
  iapply Hk
  iexists _
  isplitl [Hs]; · iexact Hs
  ipureintro; exact View.read_write_univ (v := (mSlot s).view) _ _

end Cert.Kernel.Hand

end
-- ==== Proof.State.lean ====
/-
  The ring's state: what each slot holds, which chunks of the input are lent, which chunks of the output are written;
  and each copy, wait, load and store as a step of that state.
-/
module

public import proofs.«01_k».proof.Proof.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A slot: free; waiting for a chunk; holding a chunk of the input; holding a chunk of the output; leaving for one. -/
inductive Slot where
  | free
  | coming (b : Fin 32)
  | held (b : Fin 32)
  | masked (b : Fin 32)
  | going (b : Fin 32)
deriving DecidableEq

/-- A chunk of the output: not begun, being written, written. -/
inductive Out where
  | todo
  | away
  | done
deriving DecidableEq

/-- The ring's slots, the input's chunks (`true`: at home), the output's. -/
structure St where
  slot : Fin 7 → Slot
  xs : Fin 32 → Bool
  ys : Fin 32 → Out

namespace St
/-- Chunk `b` sets out for slot `s`; has arrived; is multiplied by the mask; leaves; is gone. -/
def recv (σ : St) (s : Fin 7) (b : Fin 32) : St := ⟨Function.update σ.slot s (.coming b), Function.update σ.xs b false, σ.ys⟩
def got (σ : St) (s : Fin 7) (b : Fin 32) : St := ⟨Function.update σ.slot s (.held b), Function.update σ.xs b true, σ.ys⟩
def mask (σ : St) (s : Fin 7) (b : Fin 32) : St := ⟨Function.update σ.slot s (.masked b), σ.xs, σ.ys⟩
def send (σ : St) (s : Fin 7) (b : Fin 32) : St := ⟨Function.update σ.slot s (.going b), σ.xs, Function.update σ.ys b .away⟩
def sent (σ : St) (s : Fin 7) (b : Fin 32) : St := ⟨Function.update σ.slot s .free, σ.xs, Function.update σ.ys b .done⟩
end St

variable (c : Dev nD) (X : Buf (Elt F) (mX.view.loc (c : Thread nD τ))) (Y₀ Y₁ : Buf (Elt F) (mY.view.loc (c : Thread nD τ)))

abbrev inV (s : Fin 7) : sProp 𝕄 := semVal ((c : Thread nD τ), SemLoc.dma (inS s)) 0
abbrev outV (s : Fin 7) : sProp 𝕄 := semVal ((c : Thread nD τ), SemLoc.dma (outS s)) 0

/-- What is held of slot `s` in each state. -/
def slotΦ (s : Fin 7) : Slot → sProp 𝕄
  | .free => iprop(inV c s ∗ outV c s ∗ ∃ f, slotPt c s f)
  | .coming b => iprop(comingIn c X s b ∗ outV c s)
  | .held b => iprop(inV c s ∗ outV c s ∗ ∃ f, slotPt c s f ∗ ⌜(mSlot s).view.read (Elt F) f = blk c X b⌝)
  | .masked b => iprop(inV c s ∗ outV c s ∗ ∃ f, slotPt c s f ∗ ⌜(mSlot s).view.read (Elt F) f = (mYb b).view.read (Elt F) Y₁⌝)
  | .going b => iprop(inV c s ∗ goingOut c Y₁ s b)

def xΦ (b : Fin 32) : Bool → sProp 𝕄
  | true => xPt c b X
  | false => iprop(emp)

def yΦ (b : Fin 32) : Out → sProp 𝕄
  | .todo => yPt c b Y₀
  | .away => iprop(emp)
  | .done => yPt c b Y₁

/-- The whole ring in state `σ`. -/
def Hold (σ : St) : sProp 𝕄 :=
  iprop(Ring.AtW (slotΦ c X Y₁) σ.slot ∗ Ring.AtW (xΦ c X) σ.xs ∗ Ring.AtW (yΦ c Y₀ Y₁) σ.ys)

abbrev Owes : sProp 𝕄 := iprop(∃ W, owes (c : Thread nD τ) 0 W)

section
variable (σ : St) (s : Fin 7) (b : Fin 32)

theorem hold_start_in {α : Type} (hs : σ.slot s = .free) (hx : σ.xs b = true)
    {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s) (e₂ : o₂ = slotOff s) (e₃ : o₃ = rowOff b)
    {hsrc hdst hsem} {k : PUnit → Prog (TpuEff nD τ sig (Elt F) Λ₀ .tc) α} {Q : α → sProp 𝕄} :
    iprop(Hold c X Y₀ Y₁ σ ∗ (Hold c X Y₀ Y₁ (σ.recv s b) -∗ run c (k ⟨⟩) Q))
      ⊢ run c (.op (.enqueueDma
          (sq (mX.slice (Rect.unit (s := S8x32768x256) o₃ S1x8192x256.size i₃) (fun _ => rfl)))
          (.here (sq (mD.slice (Rect.unit (s := S7x8192x256) o₂ S1x8192x256.size i₂) (fun _ => rfl))))
          (.dma ((cc0_scratch3.slice (Rect.unit (s := S7) o₁ S1.size i₁)).squeeze S_ squeezes_S1_S_).sem) hsrc hdst hsem) k) Q := by
  unfold Hold St.recv
  rw [Ring.AtW_focus _ σ.slot s, Ring.AtW_focus _ σ.xs b, hs, hx]
  simp only [slotΦ, xΦ]
  iintro ⟨⟨⟨⟨Hi, Ho, Hs⟩, Hsr⟩, ⟨Hx, Hxr⟩, Hy⟩, Hk⟩
  iapply (start_in c X s b e₁ e₂ e₃ (hsrc := hsrc) (hdst := hdst) (hsem := hsem) (k := k) (Q := Q))
  isplitl [Hs]; · iexact Hs
  isplitl [Hx]; · iexact Hx
  isplitl [Hi]; · iexact Hi
  iintro Hf
  iapply Hk
  isplitl [Hf Ho Hsr]
  · iapply (Ring.AtW_update (slotΦ c X Y₁) σ.slot s (.coming b))
    simp only [slotΦ]
    isplitl [Hf Ho]; · isplitl [Hf] <;> iassumption
    iexact Hsr
  isplitl [Hxr]
  · iapply (Ring.AtW_update (xΦ c X) σ.xs b false)
    simp only [xΦ]
    isplitr; · iempintro
    iexact Hxr
  iexact Hy

theorem hold_wait_in {α : Type} (hs : σ.slot s = .coming b) (hx : σ.xs b = false)
    {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s)
    {hsrc hdst} {k : PUnit → Prog (TpuEff nD τ sig (Elt F) Λ₀ .tc) α} {Q : α → sProp 𝕄} :
    iprop(Hold c X Y₀ Y₁ σ ∗ Owes c ∗ (iprop(Hold c X Y₀ Y₁ (σ.got s b) ∗ Owes c) -∗ run c (k ⟨⟩) Q))
      ⊢ run c (.op (.waitDma2 ((cc0_scratch3.slice (Rect.unit (s := S7) o₁ S1.size i₁)).squeeze S_ squeezes_S1_S_).sem
          (sq (mX.slice (Rect.unit (s := S8x32768x256) o₃ S1x8192x256.size i₃) (fun _ => rfl)))
          (sq (mD.slice (Rect.unit (s := S7x8192x256) o₂ S1x8192x256.size i₂) (fun _ => rfl))) hsrc hdst) k) Q := by
  unfold Hold St.got
  rw [Ring.AtW_focus _ σ.slot s, Ring.AtW_focus _ σ.xs b, hs, hx]
  simp only [slotΦ, xΦ]
  iintro ⟨⟨⟨⟨Hf, Ho⟩, Hsr⟩, ⟨-, Hxr⟩, Hy⟩, HO, Hk⟩
  iapply (wait_in c X s b e₁ (hsrc := hsrc) (hdst := hdst) (k := k) (Q := Q))
  isplitl [Hf]; · iexact Hf
  isplitl [HO]; · iexact HO
  iintro ⟨Hs, Hx, Hi, HO⟩
  iapply Hk
  isplitr [HO]
  · isplitl [Hs Hi Ho Hsr]
    · iapply (Ring.AtW_update (slotΦ c X Y₁) σ.slot s (.held b))
      simp only [slotΦ]
      isplitr [Hsr]
      · isplitl [Hi]; · iexact Hi
        isplitl [Ho]; · iexact Ho
        iexact Hs
      iexact Hsr
    isplitl [Hx Hxr]
    · iapply (Ring.AtW_update (xΦ c X) σ.xs b true)
      simp only [xΦ]
      isplitl [Hx] <;> iassumption
    iexact Hy
  iexact HO

theorem hold_start_out {α : Type} (hs : σ.slot s = .masked b) (hy : σ.ys b = .todo)
    {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s) (e₂ : o₂ = slotOff s) (e₃ : o₃ = rowOff b)
    {hsrc hdst hsem} {k : PUnit → Prog (TpuEff nD τ sig (Elt F) Λ₀ .tc) α} {Q : α → sProp 𝕄} :
    iprop(Hold c X Y₀ Y₁ σ ∗ (Hold c X Y₀ Y₁ (σ.send s b) -∗ run c (k ⟨⟩) Q))
      ⊢ run c (.op (.enqueueDma
          (sq (mD.slice (Rect.unit (s := S7x8192x256) o₂ S1x8192x256.size i₂) (fun _ => rfl)))
          (.here (sq (mY.slice (Rect.unit (s := S8x32768x256) o₃ S1x8192x256.size i₃) (fun _ => rfl))))
          (.dma ((cc0_scratch4.slice (Rect.unit (s := S7) o₁ S1.size i₁)).squeeze S_ squeezes_S1_S_).sem) hsrc hdst hsem) k) Q := by
  unfold Hold St.send
  rw [Ring.AtW_focus _ σ.slot s, Ring.AtW_focus _ σ.ys b, hs, hy]
  simp only [slotΦ, yΦ]
  iintro ⟨⟨⟨⟨Hi, Ho, ⟨%f, Hs, %hf⟩⟩, Hsr⟩, Hx, ⟨Hy, Hyr⟩⟩, Hk⟩
  iapply (start_out c Y₁ s b e₁ e₂ e₃ hf (hsrc := hsrc) (hdst := hdst) (hsem := hsem) (k := k) (Q := Q))
  isplitl [Hs]; · iexact Hs
  isplitl [Hy]; · iexact Hy
  isplitl [Ho]; · iexact Ho
  iintro Hf
  iapply Hk
  isplitl [Hf Hi Hsr]
  · iapply (Ring.AtW_update (slotΦ c X Y₁) σ.slot s (.going b))
    simp only [slotΦ]
    isplitl [Hf Hi]; · isplitl [Hi] <;> iassumption
    iexact Hsr
  isplitl [Hx]; · iexact Hx
  iapply (Ring.AtW_update (yΦ c Y₀ Y₁) σ.ys b .away)
  simp only [yΦ]
  isplitr; · iempintro
  iexact Hyr

theorem hold_wait_out {α : Type} (hs : σ.slot s = .going b) (hy : σ.ys b = .away)
    {o₁ : Fin 1 → ℕ} {o₂ o₃ : Fin 3 → ℕ} {i₁ : ∀ a, o₁ a + S1.size a ≤ S7.size a}
    {i₂ : ∀ a, o₂ a + S1x8192x256.size a ≤ S7x8192x256.size a} {i₃ : ∀ a, o₃ a + S1x8192x256.size a ≤ S8x32768x256.size a}
    (e₁ : o₁ = semOff s)
    {hsrc hdst} {k : PUnit → Prog (TpuEff nD τ sig (Elt F) Λ₀ .tc) α} {Q : α → sProp 𝕄} :
    iprop(Hold c X Y₀ Y₁ σ ∗ Owes c ∗ (iprop(Hold c X Y₀ Y₁ (σ.sent s b) ∗ Owes c) -∗ run c (k ⟨⟩) Q))
      ⊢ run c (.op (.waitDma2 ((cc0_scratch4.slice (Rect.unit (s := S7) o₁ S1.size i₁)).squeeze S_ squeezes_S1_S_).sem
          (sq (mD.slice (Rect.unit (s := S7x8192x256) o₂ S1x8192x256.size i₂) (fun _ => rfl)))
          (sq (mY.slice (Rect.unit (s := S8x32768x256) o₃ S1x8192x256.size i₃) (fun _ => rfl))) hsrc hdst) k) Q := by
  unfold Hold St.sent
  rw [Ring.AtW_focus _ σ.slot s, Ring.AtW_focus _ σ.ys b, hs, hy]
  simp only [slotΦ, yΦ]
  iintro ⟨⟨⟨⟨Hi, Hf⟩, Hsr⟩, Hx, ⟨-, Hyr⟩⟩, HO, Hk⟩
  iapply (wait_out c Y₁ s b e₁ (hsrc := hsrc) (hdst := hdst) (k := k) (Q := Q))
  isplitl [Hf]; · iexact Hf
  isplitl [HO]; · iexact HO
  iintro ⟨Hs, Hy, Ho, HO⟩
  iapply Hk
  isplitr [HO]
  · isplitl [Hs Hi Ho Hsr]
    · iapply (Ring.AtW_update (slotΦ c X Y₁) σ.slot s .free)
      simp only [slotΦ]
      isplitr [Hsr]
      · isplitl [Hi]; · iexact Hi
        isplitl [Ho]; · iexact Ho
        iexact Hs
      iexact Hsr
    isplitl [Hx]; · iexact Hx
    iapply (Ring.AtW_update (yΦ c Y₀ Y₁) σ.ys b .done)
    simp only [yΦ]
    isplitl [Hy] <;> iassumption
  iexact HO

theorem hold_load {α : Type} (hs : σ.slot s = .held b) {o : Fin 3 → ℕ} {i : ∀ a, o a + S1x8192x256.size a ≤ S7x8192x256.size a} (e : o = slotOff s)
    {hl} {k : (S1x8192x256.Idx → Elt F .f32) → Prog (TpuEff nD τ sig (Elt F) Λ₀ .tc) α} {Q : α → sProp 𝕄} :
    iprop(Hold c X Y₀ Y₁ σ ∗ (Hold c X Y₀ Y₁ σ -∗ run c (k (blk c X b)) Q))
      ⊢ run c (.op (.load mD (Rect.unit (s := S7x8192x256) o S1x8192x256.size i).toLoadRect hl) k) Q := by
  unfold Hold
  rw [Ring.AtW_focus _ σ.slot s, hs]
  simp only [slotΦ]
  iintro ⟨⟨⟨⟨Hi, Ho, ⟨%f, Hs, %hf⟩⟩, Hsr⟩, Hxy⟩, Hk⟩
  iapply (load_slot c s e (hl := hl) (k := k) (Q := Q) (f := f))
  isplitl [Hs]; · iexact Hs
  iintro Hs
  rw [hf]
  iapply Hk
  isplitr [Hxy]
  · isplitr [Hsr]
    · isplitl [Hi]; · iexact Hi
      isplitl [Ho]; · iexact Ho
      iexists f
      isplitl [Hs]; · iexact Hs
      ipureintro; exact hf
    iexact Hsr
  iexact Hxy

theorem hold_store {α : Type} (hs : σ.slot s = .held b) {o : Fin 3 → ℕ} {i : ∀ a, o a + S1x8192x256.size a ≤ S7x8192x256.size a} (e : o = slotOff s)
    {w : S1x8192x256.Idx → Elt F .f32} (hw : w = (mYb b).view.read (Elt F) Y₁)
    {hx hm} {k : PUnit → Prog (TpuEff nD τ sig (Elt F) Λ₀ .tc) α} {Q : α → sProp 𝕄} :
    iprop(Hold c X Y₀ Y₁ σ ∗ (Hold c X Y₀ Y₁ (σ.mask s b) -∗ run c (k ⟨⟩) Q))
      ⊢ run c (.op (.store mD (Rect.unit (s := S7x8192x256) o S1x8192x256.size i) w Finset.univ hx hm) k) Q := by
  unfold Hold St.mask
  rw [Ring.AtW_focus _ σ.slot s, hs]
  simp only [slotΦ]
  iintro ⟨⟨⟨⟨Hi, Ho, ⟨%f, Hs, -⟩⟩, Hsr⟩, Hxy⟩, Hk⟩
  iapply (store_slot c s e w (hx := hx) (hm := hm) (k := k) (Q := Q) (f := f))
  isplitl [Hs]; · iexact Hs
  iintro ⟨%g, Hs, %hg⟩
  iapply Hk
  isplitr [Hxy]
  · iapply (Ring.AtW_update (slotΦ c X Y₁) σ.slot s (.masked b))
    simp only [slotΦ]
    isplitr [Hsr]
    · isplitl [Hi]; · iexact Hi
      isplitl [Ho]; · iexact Ho
      iexists g
      isplitl [Hs]; · iexact Hs
      ipureintro; exact hg.trans hw
    iexact Hsr
  iexact Hxy

end

end Cert.Kernel.Hand

end
-- ==== Proof.Schedule.lean ====
/-
  The schedule: the ring's state before each of the 36 steps, as the body's own moves make it, and the facts the moves
  need (the slot a copy goes into is free, the slot waited for is the one lent, …), each decided over the 36 steps; and
  the body's conditions and offsets in plain numbers.
-/
module

public import proofs.«01_k».proof.Proof.State

@[expose] public section

namespace Cert.Kernel.Hand

open Cert.Kernel Cert.Kernel.Gen
open Idealize.ShloMosaic Idealize.ShloMosaic.TcCoe

/-- The slot chunk `n` goes through, and the chunk numbered `n`. -/
def sl (n : ℕ) : Fin 7 := ⟨n % 7, Nat.mod_lt _ (by decide)⟩
def ch (n : ℕ) : Fin 32 := ⟨n % 32, Nat.mod_lt _ (by decide)⟩

namespace St
def start : St := ⟨fun _ => .free, fun _ => true, fun _ => .todo⟩

/-- The first step's three copies in. -/
def b1 (k : ℕ) (σ : St) : St :=
  if k = 0 then ((σ.recv (sl 0) (ch 0)).recv (sl 1) (ch 1)).recv (sl 2) (ch 2) else σ
/-- Two chunks ahead: the slot's last copy out is waited for, if there was one, -/
def b2w (k : ℕ) (σ : St) : St := if 5 ≤ k then σ.sent (sl (k - 5)) (ch (k - 5)) else σ
/-- and the copy in starts. -/
def b2 (k : ℕ) (σ : St) : St := if 1 ≤ k ∧ k < 30 then (b2w k σ).recv (sl (k + 2)) (ch (k + 2)) else σ
/-- Four chunks behind: the slot is multiplied by the mask and leaves. -/
def b4 (k : ℕ) (σ : St) : St := if 4 ≤ k then (σ.mask (sl (k - 4)) (ch (k - 4))).send (sl (k - 4)) (ch (k - 4)) else σ
/-- The step's own chunk arrives. -/
def b5 (k : ℕ) (σ : St) : St := if k < 32 then σ.got (sl k) (ch k) else σ
/-- The last step waits for the seven copies out still under way: the first four, the last three. -/
def b6a (σ : St) : St :=
  (((σ.sent (sl 25) (ch 25)).sent (sl 26) (ch 26)).sent (sl 27) (ch 27)).sent (sl 28) (ch 28)
def b6b (σ : St) : St := (((b6a σ).sent (sl 29) (ch 29)).sent (sl 30) (ch 30)).sent (sl 31) (ch 31)
def b6 (k : ℕ) (σ : St) : St := if k = 35 then b6b σ else σ

/-- The state before step `k`. -/
def at_ : ℕ → St
  | 0 => start
  | k + 1 => b6 k (b5 k (b4 k (b2 k (b1 k (at_ k)))))
end St

open St

/-! ## What the moves need -/

theorem b1_free : (at_ 0).slot (sl 0) = .free ∧ (at_ 0).xs (ch 0) = true
    ∧ ((at_ 0).recv (sl 0) (ch 0)).slot (sl 1) = .free ∧ ((at_ 0).recv (sl 0) (ch 0)).xs (ch 1) = true
    ∧ (((at_ 0).recv (sl 0) (ch 0)).recv (sl 1) (ch 1)).slot (sl 2) = .free
    ∧ (((at_ 0).recv (sl 0) (ch 0)).recv (sl 1) (ch 1)).xs (ch 2) = true := by decide +kernel
theorem b2_going : ∀ k : Fin 36, 1 ≤ k.val ∧ k.val < 30 → 5 ≤ k.val →
    (b1 k (at_ k)).slot (sl (k - 5)) = .going (ch (k - 5)) ∧ (b1 k (at_ k)).ys (ch (k - 5)) = .away := by decide +kernel
theorem b2_free : ∀ k : Fin 36, 1 ≤ k.val ∧ k.val < 30 →
    (b2w k (b1 k (at_ k))).slot (sl (k + 2)) = .free ∧ (b2w k (b1 k (at_ k))).xs (ch (k + 2)) = true := by decide +kernel
theorem b4_held : ∀ k : Fin 36, 4 ≤ k.val →
    (b2 k (b1 k (at_ k))).slot (sl (k - 4)) = .held (ch (k - 4))
      ∧ ((b2 k (b1 k (at_ k))).mask (sl (k - 4)) (ch (k - 4))).slot (sl (k - 4)) = .masked (ch (k - 4))
      ∧ ((b2 k (b1 k (at_ k))).mask (sl (k - 4)) (ch (k - 4))).ys (ch (k - 4)) = .todo := by decide +kernel
theorem b5_coming : ∀ k : Fin 36, k.val < 32 →
    (b4 k (b2 k (b1 k (at_ k)))).slot (sl k) = .coming (ch k) ∧ (b4 k (b2 k (b1 k (at_ k)))).xs (ch k) = false := by decide +kernel
theorem b5_held : ∀ k : Fin 36, k.val < 32 → (b5 k (b4 k (b2 k (b1 k (at_ k))))).slot (sl k) = .held (ch k) := by decide +kernel

/-- The ring before the last waits. -/
def last : St := b5 35 (b4 35 (b2 35 (b1 35 (at_ 35))))
theorem b6_1 : last.slot (sl 25) = .going (ch 25) ∧ last.ys (ch 25) = .away := by decide +kernel
theorem b6_2 : (last.sent (sl 25) (ch 25)).slot (sl 26) = .going (ch 26) ∧ (last.sent (sl 25) (ch 25)).ys (ch 26) = .away := by decide +kernel
theorem b6_3 : ((last.sent (sl 25) (ch 25)).sent (sl 26) (ch 26)).slot (sl 27) = .going (ch 27)
    ∧ ((last.sent (sl 25) (ch 25)).sent (sl 26) (ch 26)).ys (ch 27) = .away := by decide +kernel
theorem b6_4 : (((last.sent (sl 25) (ch 25)).sent (sl 26) (ch 26)).sent (sl 27) (ch 27)).slot (sl 28) = .going (ch 28)
    ∧ (((last.sent (sl 25) (ch 25)).sent (sl 26) (ch 26)).sent (sl 27) (ch 27)).ys (ch 28) = .away := by decide +kernel
theorem b6_5 : (b6a last).slot (sl 29) = .going (ch 29) ∧ (b6a last).ys (ch 29) = .away := by decide +kernel
theorem b6_6 : ((b6a last).sent (sl 29) (ch 29)).slot (sl 30) = .going (ch 30)
    ∧ ((b6a last).sent (sl 29) (ch 29)).ys (ch 30) = .away := by decide +kernel
theorem b6_7 : (((b6a last).sent (sl 29) (ch 29)).sent (sl 30) (ch 30)).slot (sl 31) = .going (ch 31)
    ∧ (((b6a last).sent (sl 29) (ch 29)).sent (sl 30) (ch 30)).ys (ch 31) = .away := by decide +kernel

/-- At the end every slot is free, every chunk of the input at home, every chunk of the output written. -/
theorem end_slot : (at_ 36).slot = fun _ => .free := funext (by decide +kernel)
theorem end_xs : (at_ 36).xs = fun _ => true := funext (by decide +kernel)
theorem end_ys : (at_ 36).ys = fun _ => .done := funext (by decide +kernel)

/-! ## The body's conditions and offsets at step `t` -/

/-- Step `t`'s number as the body computes it from the point's coordinates. -/
abbrev word (i : grid0.Coords) : BitVec 32 := Scalar.addi (Scalar.muli (BitVec.ofNat 32 (i 0).val) 4#32) (BitVec.ofNat 32 (i 1).val)

theorem cond1_iff : ∀ t : Fin grid0.N,
    Scalar.cmpi .ne (Scalar.extui (Scalar.cmpi .eq (word (grid0.coords t)) 0#32) : BitVec 32) 0#32 = 1#1 ↔ t.val = 0 := by decide +kernel
theorem cond2_iff : ∀ t : Fin grid0.N, k0_cond2 (grid0.coords t) = 1#1 ↔ 1 ≤ t.val ∧ t.val < 30 := by decide +kernel
theorem cond3_iff : ∀ t : Fin grid0.N, k0_cond3 (grid0.coords t) = 1#1 ↔ 5 ≤ t.val := by decide +kernel
theorem cond4_iff : ∀ t : Fin grid0.N, k0_cond4 (grid0.coords t) = 1#1 ↔ 4 ≤ t.val ∧ t.val % 4 = 0 := by decide +kernel
theorem cond5_iff : ∀ t : Fin grid0.N, k0_cond5 (grid0.coords t) = 1#1 ↔ 4 ≤ t.val := by decide +kernel
theorem cond6_iff : ∀ t : Fin grid0.N, k0_cond6 (grid0.coords t) = 1#1 ↔ t.val < 32 := by decide +kernel
theorem cond7_iff : ∀ t : Fin grid0.N, k0_cond7 (grid0.coords t) = 1#1 ↔ t.val % 4 = 0 := by decide +kernel
theorem cond8_iff : ∀ t : Fin grid0.N, k0_cond8 (grid0.coords t) = 1#1 ↔ ¬ t.val % 4 = 0 := by decide +kernel
theorem cond9_iff : ∀ t : Fin grid0.N,
    Scalar.cmpi .ne (Scalar.extui (Scalar.cmpi .eq (word (grid0.coords t)) 35#32) : BitVec 32) 0#32 = 1#1 ↔ t.val = 35 := by decide +kernel

theorem off1_eq : ∀ t : Fin grid0.N, 1 ≤ t.val ∧ t.val < 30 → 5 ≤ t.val → k0_off1 (grid0.coords t) = semOff (sl (t - 5)) := by decide +kernel
theorem off4_eq : ∀ t : Fin grid0.N, 1 ≤ t.val ∧ t.val < 30 → k0_off4 (grid0.coords t) = semOff (sl (t + 2)) := by decide +kernel
theorem off5_eq : ∀ t : Fin grid0.N, 1 ≤ t.val ∧ t.val < 30 → k0_off5 (grid0.coords t) = slotOff (sl (t + 2)) := by decide +kernel
theorem off6_eq : ∀ t : Fin grid0.N, 1 ≤ t.val ∧ t.val < 30 → k0_off6 (grid0.coords t) = rowOff (ch (t + 2)) := by decide +kernel
theorem off9_eq : ∀ t : Fin grid0.N, 4 ≤ t.val → k0_off9 (grid0.coords t) = slotOff (sl (t - 4)) := by decide +kernel
theorem off10_eq : ∀ t : Fin grid0.N, 4 ≤ t.val → k0_off10 (grid0.coords t) = semOff (sl (t - 4)) := by decide +kernel
theorem off11_eq : ∀ t : Fin grid0.N, 4 ≤ t.val → k0_off11 (grid0.coords t) = rowOff (ch (t - 4)) := by decide +kernel
theorem off12_eq : ∀ t : Fin grid0.N, 4 ≤ t.val → k0_off12 (grid0.coords t) = slotOff (sl (t - 4)) := by decide +kernel
theorem off13_eq : ∀ t : Fin grid0.N, t.val < 32 → k0_off13 (grid0.coords t) = semOff (sl t) := by decide +kernel
theorem off16_eq : ∀ t : Fin grid0.N, t.val < 32 → k0_off16 (grid0.coords t) = slotOff (sl t) := by decide +kernel

/-- Which of the two rows of running sums chunk `n` adds to. -/
def sumRow (n : ℕ) : Fin 2 := ⟨n / 4 % 2, Nat.mod_lt _ (by decide)⟩
/-- The batch chunk `n` belongs to. -/
def bat (n : ℕ) : Fin 8 := ⟨n / 4 % 8, Nat.mod_lt _ (by decide)⟩

theorem off7_eq : ∀ t : Fin grid0.N, 4 ≤ t.val ∧ t.val % 4 = 0 → k0_off7 (grid0.coords t) = ![(sumRow (t - 1)).val, 0] := by decide +kernel
theorem off8_eq : ∀ t : Fin grid0.N, 4 ≤ t.val ∧ t.val % 4 = 0 → k0_off8 (grid0.coords t) = ![(bat (t - 4)).val, 0, 0] := by decide +kernel
theorem off17_eq : ∀ t : Fin grid0.N, t.val < 32 → t.val % 4 = 0 → k0_off17 (grid0.coords t) = ![(sumRow t).val, 0] := by decide +kernel
theorem off18_eq : ∀ t : Fin grid0.N, t.val < 32 → ¬ t.val % 4 = 0 → k0_off18 (grid0.coords t) = ![(sumRow t).val, 0] := by decide +kernel
theorem sumRow_prev : ∀ t : Fin grid0.N, ¬ t.val % 4 = 0 → sumRow (t - 1) = sumRow t := by decide +kernel

end Cert.Kernel.Hand

end
-- ==== Proof.Values.lean ====
/-
  What the body computes: a batch's running sums over its chunks, the batch's mask row, and the chunk of the output.
-/
module

public import proofs.«01_k».proof.Proof.Schedule

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Buf (Elt F) (mX.view.loc (c : Thread nD τ))) (T₀ T₁ : S8x1x256.Idx → Elt F .f32)

/-- The running sums of its batch after chunk `n`. -/
def tot : ℕ → Vec F S1x256 .f32
  | 0 => k0_pay3 (blk c X (ch 0))
  | n + 1 => if (n + 1) % 4 = 0 then k0_pay3 (blk c X (ch (n + 1))) else k0_pay4 (blk c X (ch (n + 1))) (tot n)

theorem tot_first {n : ℕ} (h : n % 4 = 0) : tot c X n = k0_pay3 (blk c X (ch n)) := by
  cases n with
  | zero => rfl
  | succ n => rw [tot, if_pos h]
theorem tot_next {n : ℕ} (h : ¬ n % 4 = 0) : tot c X n = k0_pay4 (blk c X (ch n)) (tot c X (n - 1)) := by
  cases n with
  | zero => exact absurd rfl h
  | succ n => rw [tot, if_neg h]; rfl

theorem tabRow_inb : ∀ (v : Fin 8) a, (![v.val, 0, 0] : Fin 3 → ℕ) a + S1x1x256.size a ≤ S8x1x256.size a := by decide +kernel
/-- Row `v` of a table. -/
def tabRow (T : S8x1x256.Idx → Elt F .f32) (v : Fin 8) : Vec F S1x1x256 .f32 := fun x =>
  T ((Rect.unit (s := S8x1x256) ![v.val, 0, 0] S1x1x256.size (tabRow_inb v)).emb x)

/-- Batch `v`'s mask row: from its sums, its row of the noise and its row of the draws. -/
def maskRow (v : Fin 8) : Vec F S1x256 .f32 := k0_pay1 (k0_pay5 (tot c X (4 * v.val + 3)) (tabRow T₀ v)) (tabRow T₁ v)

/-- Chunk `b` of the output. -/
def chunkOut (b : Fin 32) : Vec F S1x8192x256 .f32 := k0_pay6 (blk c X b) (maskRow c X T₀ T₁ (bat b.val))

/-! ## The two small buffers -/

theorem sum_inb : ∀ (r : Fin 2) a, (![r.val, 0] : Fin 2 → ℕ) a + S1x256.size a ≤ S2x256.size a := by decide +kernel
abbrev sumR (r : Fin 2) : Rect S2x256 := Rect.unit (s := S2x256) ![r.val, 0] S1x256.size (sum_inb r)
abbrev maskR : Rect S1x256 := Rect.unit (s := S1x256) ![0, 0] S1x256.size inb_S1x256_S1x256_0_0

/-- Before step `k` the sums' row in use holds the sums up to chunk `k - 1`. -/
def Sums (k : ℕ) : sProp 𝕄 :=
  iprop(∃ f, (mS.view.loc (c : Thread nD τ) ↦{fullShare} f)
    ∗ ⌜1 ≤ k → k ≤ 32 → (mS.access (sumR (sumRow (k - 1)))).read (Elt F) f = tot c X (k - 1)⌝)
/-- Before step `k` the mask's buffer holds the mask of chunk `k - 5`. -/
def Mask (k : ℕ) : sProp 𝕄 :=
  iprop(∃ f, (mM.view.loc (c : Thread nD τ) ↦{fullShare} f)
    ∗ ⌜5 ≤ k → (mM.access maskR).read (Elt F) f = maskRow c X T₀ T₁ (bat (k - 5))⌝)

section

theorem load_sum {α : Type} {r : Fin 2} {o : Fin 2 → ℕ} {i : ∀ a, o a + S1x256.size a ≤ S2x256.size a} (e : o = ![r.val, 0])
    {hl} {k : (S1x256.Idx → Elt F .f32) → Prog (TpuEff nD τ sig (Elt F) Λ₀ .tc) α} {Q : α → sProp 𝕄}
    {f : Buf (Elt F) (mS.view.loc (c : Thread nD τ))} :
    iprop((mS.view.loc (c : Thread nD τ) ↦{fullShare} f)
        ∗ ((mS.view.loc (c : Thread nD τ) ↦{fullShare} f) -∗ run c (k ((mS.access (sumR r)).read (Elt F) f)) Q))
      ⊢ run c (.op (.load mS (Rect.unit (s := S2x256) o S1x256.size i).toLoadRect hl) k) Q := by
  subst e
  iintro ⟨Hs, Hk⟩
  iapply (wp_load_rect Variants.none (c : Thread nD τ) none Set.univ (m := mS) (r := sumR r) (S := Finset.univ) (f := f)
    (Finset.subset_univ _)) $$ Hs
  iintro Hs
  iapply Hk; iexact Hs

theorem store_sum {α : Type} {r : Fin 2} {o : Fin 2 → ℕ} {i : ∀ a, o a + S1x256.size a ≤ S2x256.size a} (e : o = ![r.val, 0])
    (w : S1x256.Idx → Elt F .f32)
    {hx hm} {k : PUnit → Prog (TpuEff nD τ sig (Elt F) Λ₀ .tc) α} {Q : α → sProp 𝕄}
    {f : Buf (Elt F) (mS.view.loc (c : Thread nD τ))} :
    iprop((mS.view.loc (c : Thread nD τ) ↦{fullShare} f)
        ∗ ((∃ g, (mS.view.loc (c : Thread nD τ) ↦{fullShare} g) ∗ ⌜(mS.access (sumR r)).read (Elt F) g = w⌝) -∗ run c (k ⟨⟩) Q))
      ⊢ run c (.op (.store mS (Rect.unit (s := S2x256) o S1x256.size i) w Finset.univ hx hm) k) Q := by
  subst e
  iintro ⟨Hs, Hk⟩
  iapply (wp_store Variants.none (c : Thread nD τ) none Set.univ (m := mS) (r := sumR r) (S := Finset.univ) (f := f)
    (Finset.subset_univ _)) $$ Hs
  iintro Hs
  iapply Hk
  iexists _
  isplitl [Hs]; · iexact Hs
  ipureintro; exact View.read_write_univ (v := mS.access (sumR r)) _ _

theorem load_mask {α : Type} {hl} {k : (S1x256.Idx → Elt F .f32) → Prog (TpuEff nD τ sig (Elt F) Λ₀ .tc) α} {Q : α → sProp 𝕄}
    {f : Buf (Elt F) (mM.view.loc (c : Thread nD τ))} :
    iprop((mM.view.loc (c : Thread nD τ) ↦{fullShare} f)
        ∗ ((mM.view.loc (c : Thread nD τ) ↦{fullShare} f) -∗ run c (k ((mM.access maskR).read (Elt F) f)) Q))
      ⊢ run c (.op (.load mM maskR.toLoadRect hl) k) Q := by
  iintro ⟨Hs, Hk⟩
  iapply (wp_load_rect Variants.none (c : Thread nD τ) none Set.univ (m := mM) (r := maskR) (S := Finset.univ) (f := f)
    (Finset.subset_univ _)) $$ Hs
  iintro Hs
  iapply Hk; iexact Hs

theorem store_mask {α : Type} (w : S1x256.Idx → Elt F .f32)
    {hx hm} {k : PUnit → Prog (TpuEff nD τ sig (Elt F) Λ₀ .tc) α} {Q : α → sProp 𝕄}
    {f : Buf (Elt F) (mM.view.loc (c : Thread nD τ))} :
    iprop((mM.view.loc (c : Thread nD τ) ↦{fullShare} f)
        ∗ ((∃ g, (mM.view.loc (c : Thread nD τ) ↦{fullShare} g) ∗ ⌜(mM.access maskR).read (Elt F) g = w⌝) -∗ run c (k ⟨⟩) Q))
      ⊢ run c (.op (.store mM maskR w Finset.univ hx hm) k) Q := by
  iintro ⟨Hs, Hk⟩
  iapply (wp_store Variants.none (c : Thread nD τ) none Set.univ (m := mM) (r := maskR) (S := Finset.univ) (f := f)
    (Finset.subset_univ _)) $$ Hs
  iintro Hs
  iapply Hk
  iexists _
  isplitl [Hs]; · iexact Hs
  ipureintro; exact View.read_write_univ (v := mM.access maskR) _ _

/-- Row `v` of a staged table is loaded. -/
theorem load_tab {α : Type} {M : Memref sig .tc .vmem S8x1x256 .f32} {v : Fin 8} {o : Fin 3 → ℕ} {i : ∀ a, o a + S1x1x256.size a ≤ S8x1x256.size a}
    (e : o = ![v.val, 0, 0]) (T : S8x1x256.Idx → Elt F .f32)
    {hl} {k : (S1x1x256.Idx → Elt F .f32) → Prog (TpuEff nD τ sig (Elt F) Λ₀ .tc) α} {Q : α → sProp 𝕄} :
    iprop(owns (c : Thread nD τ) M fullShare T ∗ (owns (c : Thread nD τ) M fullShare T -∗ run c (k (tabRow T v)) Q))
      ⊢ run c (.op (.load M (Rect.unit (s := S8x1x256) o S1x1x256.size i).toLoadRect hl) k) Q := by
  subst e
  unfold owns
  iintro ⟨⟨%f, %hf, Hs⟩, Hk⟩
  iapply (wp_load_rect Variants.none (c : Thread nD τ) none Set.univ (m := M)
    (r := Rect.unit (s := S8x1x256) ![v.val, 0, 0] S1x1x256.size i) (S := M.view.set) (f := f)
    (by rw [View.set_slice]; exact Finset.map_subset_map.mpr (Finset.subset_univ _))) $$ Hs
  iintro Hs
  have e : (M.access (Rect.unit (s := S8x1x256) ![v.val, 0, 0] S1x1x256.size i)).read (Elt F) f = tabRow T v := by
    subst hf; rfl
  rw [e]
  iapply Hk
  iexists f
  isplitr; · ipureintro; exact hf
  iexact Hs

end

end Cert.Kernel.Hand

end
-- ==== Proof.Body.lean ====
/-
  One step of the kernel's body: from the ring's state before step `t` to its state before step `t + 1`.
-/
module

public import proofs.«01_k».proof.Proof.Values

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- An operation and what follows it. -/
theorem lift_then {α β : Type} {e : TpuEff nD τ sig (Elt F) Λ₀ .tc α} {k : α → Prog (TpuEff nD τ sig (Elt F) Λ₀ .tc) β} :
    (Prog.lift e >>= k) = .op e k := rfl
theorem pure_then {α β : Type} {a : α} {k : α → Prog (TpuEff nD τ sig (Elt F) Λ₀ .tc) β} : (pure a >>= k) = k a := rfl

/-- A choice runs from `P` when each arm does. -/
theorem run_if {α : Type} {c : Dev nD} {C : Prop} [Decidable C] {p : C → Prog (TpuEff nD τ sig (Elt F) Λ₀ .tc) α}
    {q : ¬ C → Prog (TpuEff nD τ sig (Elt F) Λ₀ .tc) α} {P : sProp 𝕄} {Q : α → sProp 𝕄}
    (hp : ∀ h, P ⊢ run c (p h) Q) (hq : ∀ h, P ⊢ run c (q h) Q) : P ⊢ run c (dite C p q) Q := by
  by_cases h : C
  · rw [dif_pos h]; exact hp h
  · rw [dif_neg h]; exact hq h

theorem run_bind {α β : Type} {c : Dev nD} {p : Prog (TpuEff nD τ sig (Elt F) Λ₀ .tc) α} {k : α → Prog (TpuEff nD τ sig (Elt F) Λ₀ .tc) β}
    {Q : β → sProp 𝕄} : run c (p >>= k) Q = run c p fun a => run c (k a) Q := wp_bind _ _ _ _ _ _
theorem run_pure {α : Type} {c : Dev nD} {a : α} {P : sProp 𝕄} {Q : α → sProp 𝕄} (h : P ⊢ Q a) : P ⊢ run c (pure a) Q := by
  refine BIBase.Entails.trans h ?_
  show _ ⊢ wp _ _ _ (Prog.ret _) _
  rw [wp_ret]
  iintro H; imodintro; iexact H

variable (c : Dev nD) (X : Buf (Elt F) (mX.view.loc (c : Thread nD τ))) (Y₀ Y₁ : Buf (Elt F) (mY.view.loc (c : Thread nD τ)))
  (T₀ T₁ : S8x1x256.Idx → Elt F .f32)
  (arg3 arg4 : Memref sig .tc .vmem S8x1x256 .f32) (harg3 : arg3.IsWhole) (harg4 : arg4.IsWhole)

/-- The sums so far are loaded. -/
theorem load_sums {α : Type} (n : ℕ) (h₁ : 1 ≤ n) (h₂ : n ≤ 32) {o : Fin 2 → ℕ} {i : ∀ a, o a + S1x256.size a ≤ S2x256.size a}
    (e : o = ![(sumRow (n - 1)).val, 0])
    {hl} {k : (S1x256.Idx → Elt F .f32) → Prog (TpuEff nD τ sig (Elt F) Λ₀ .tc) α} {Q : α → sProp 𝕄} :
    iprop(Sums c X n ∗ (Sums c X n -∗ run c (k (tot c X (n - 1))) Q))
      ⊢ run c (.op (.load mS (Rect.unit (s := S2x256) o S1x256.size i).toLoadRect hl) k) Q := by
  unfold Sums
  iintro ⟨⟨%f, Hs, %hf⟩, Hk⟩
  iapply (load_sum c e (hl := hl) (k := k) (Q := Q) (f := f))
  isplitl [Hs]; · iexact Hs
  iintro Hs
  rw [hf h₁ h₂]
  iapply Hk
  iexists f
  isplitl [Hs]; · iexact Hs
  ipureintro; exact hf

/-- A row of the sums is loaded of which nothing is to be known. -/
theorem load_skip {α : Type} (n : ℕ) {r : Fin 2} {o : Fin 2 → ℕ} {i : ∀ a, o a + S1x256.size a ≤ S2x256.size a} (e : o = ![r.val, 0])
    {hl} {p : Prog (TpuEff nD τ sig (Elt F) Λ₀ .tc) α} {Q : α → sProp 𝕄} :
    iprop(Sums c X n ∗ (Sums c X n -∗ run c p Q))
      ⊢ run c (.op (.load mS (Rect.unit (s := S2x256) o S1x256.size i).toLoadRect hl) fun _ => p) Q := by
  unfold Sums
  iintro ⟨⟨%f, Hs, %hf⟩, Hk⟩
  iapply (load_sum c e (hl := hl) (Q := Q) (f := f))
  isplitl [Hs]; · iexact Hs
  iintro Hs
  iapply Hk
  iexists f
  isplitl [Hs]; · iexact Hs
  ipureintro; exact hf

/-- The sums are renewed. -/
theorem store_sums {α : Type} (n n' : ℕ) {o : Fin 2 → ℕ} {i : ∀ a, o a + S1x256.size a ≤ S2x256.size a}
    (e : o = ![(sumRow (n' - 1)).val, 0]) {w : S1x256.Idx → Elt F .f32} (hw : w = tot c X (n' - 1))
    {hx hm} {k : PUnit → Prog (TpuEff nD τ sig (Elt F) Λ₀ .tc) α} {Q : α → sProp 𝕄} :
    iprop(Sums c X n ∗ (Sums c X n' -∗ run c (k ⟨⟩) Q))
      ⊢ run c (.op (.store mS (Rect.unit (s := S2x256) o S1x256.size i) w Finset.univ hx hm) k) Q := by
  unfold Sums
  iintro ⟨⟨%f, Hs, -⟩, Hk⟩
  iapply (store_sum c e w (hx := hx) (hm := hm) (k := k) (Q := Q) (f := f))
  isplitl [Hs]; · iexact Hs
  iintro ⟨%g, Hs, %hg⟩
  iapply Hk
  iexists g
  isplitl [Hs]; · iexact Hs
  ipureintro; intro _ _; exact hg.trans hw

/-- The mask's buffer is loaded, and renewed. -/
theorem remask {α : Type} (n : ℕ) {w : S1x256.Idx → Elt F .f32} (hw : w = maskRow c X T₀ T₁ (bat (n - 4)))
    {hl hx hm} {k : PUnit → Prog (TpuEff nD τ sig (Elt F) Λ₀ .tc) α} {Q : α → sProp 𝕄} :
    iprop(Mask c X T₀ T₁ n ∗ (Mask c X T₀ T₁ (n + 1) -∗ run c (k ⟨⟩) Q))
      ⊢ run c (.op (.load mM maskR.toLoadRect hl) fun _ => .op (.store mM maskR w Finset.univ hx hm) k) Q := by
  unfold Mask
  iintro ⟨⟨%f, Hs, -⟩, Hk⟩
  iapply (load_mask c (hl := hl) (f := f))
  isplitl [Hs]; · iexact Hs
  iintro Hs
  iapply (store_mask c w (hx := hx) (hm := hm) (k := k) (Q := Q) (f := f))
  isplitl [Hs]; · iexact Hs
  iintro ⟨%g, Hs, %hg⟩
  iapply Hk
  iexists g
  isplitl [Hs]; · iexact Hs
  ipureintro; intro _; exact hg.trans (hw.trans (by rw [show n + 1 - 5 = n - 4 by omega]))

/-- The mask is loaded. -/
theorem load_masks {α : Type} (n : ℕ) (h : 5 ≤ n)
    {hl} {k : (S1x256.Idx → Elt F .f32) → Prog (TpuEff nD τ sig (Elt F) Λ₀ .tc) α} {Q : α → sProp 𝕄} :
    iprop(Mask c X T₀ T₁ n ∗ (Mask c X T₀ T₁ n -∗ run c (k (maskRow c X T₀ T₁ (bat (n - 5)))) Q))
      ⊢ run c (.op (.load mM maskR.toLoadRect hl) k) Q := by
  unfold Mask
  iintro ⟨⟨%f, Hs, %hf⟩, Hk⟩
  iapply (load_mask c (hl := hl) (k := k) (Q := Q) (f := f))
  isplitl [Hs]; · iexact Hs
  iintro Hs
  rw [hf h]
  iapply Hk
  iexists f
  isplitl [Hs]; · iexact Hs
  ipureintro; exact hf

/-- All that step `k` finds and leaves: the ring, the sums, the mask, the two staged tables, the record of waits. -/
def Before (σ
 : St) (k k' : ℕ) : sProp 𝕄 :=
  iprop(Hold c X Y₀ Y₁ σ ∗ Sums c X k ∗ Mask c X T₀ T₁ k'
    ∗ owns (c : Thread nD τ) arg3 fullShare T₀ ∗ owns (c : Thread nD τ) arg4 fullShare T₁ ∗ Owes c)

section
variable {c X Y₀ Y₁ T₀ T₁ arg3 arg4}

/-- A move of the ring alone. -/
theorem before_op {α : Type} {Q : α → sProp 𝕄} {p q : Prog (TpuEff nD τ sig (Elt F) Λ₀ .tc) α} {σ σ' : St} {k k' : ℕ}
    (H : iprop(Hold c X Y₀ Y₁ σ ∗ (Hold c X Y₀ Y₁ σ' -∗ run c q Q)) ⊢ run c p Q)
    (h : Before c X Y₀ Y₁ T₀ T₁ arg3 arg4 σ' k k' ⊢ run c q Q) : Before c X Y₀ Y₁ T₀ T₁ arg3 arg4 σ k k' ⊢ run c p Q := by
  refine BIBase.Entails.trans ?_ H
  unfold Before at h ⊢
  iintro ⟨Hh, Hr⟩
  isplitl [Hh]; · iexact Hh
  iintro Hh
  iapply h
  isplitl [Hh]; · iexact Hh
  iexact Hr

/-- A wait, which the record of waits sees. -/
theorem before_wait {α : Type} {Q : α → sProp 𝕄} {p q : Prog (TpuEff nD τ sig (Elt F) Λ₀ .tc) α} {σ σ' : St} {k k' : ℕ}
    (H : iprop(Hold c X Y₀ Y₁ σ ∗ Owes c ∗ (iprop(Hold c X Y₀ Y₁ σ' ∗ Owes c) -∗ run c q Q)) ⊢ run c p Q)
    (h : Before c X Y₀ Y₁ T₀ T₁ arg3 arg4 σ' k k' ⊢ run c q Q) : Before c X Y₀ Y₁ T₀ T₁ arg3 arg4 σ k k' ⊢ run c p Q := by
  refine BIBase.Entails.trans ?_ H
  unfold Before at h ⊢
  iintro ⟨Hh, Hs, Hm, Ha, Hb, HO⟩
  isplitl [Hh]; · iexact Hh
  isplitl [HO]; · iexact HO
  iintro ⟨Hh, HO⟩
  iapply h
  isplitl [Hh]; · iexact Hh
  isplitl [Hs]; · iexact Hs
  isplitl [Hm]; · iexact Hm
  isplitl [Ha]; · iexact Ha
  isplitl [Hb]; · iexact Hb
  iexact HO

/-- A move of the sums alone. -/
theorem before_sums {α : Type} {Q : α → sProp 𝕄} {p q : Prog (TpuEff nD τ sig (Elt F) Λ₀ .tc) α} {σ : St} {k k₂ k' : ℕ}
    (H : iprop(Sums c X k ∗ (Sums c X k₂ -∗ run c q Q)) ⊢ run c p Q)
    (h : Before c X Y₀ Y₁ T₀ T₁ arg3 arg4 σ k₂ k' ⊢ run c q Q) : Before c X Y₀ Y₁ T₀ T₁ arg3 arg4 σ k k' ⊢ run c p Q := by
  refine BIBase.Entails.trans ?_ H
  unfold Before at h ⊢
  iintro ⟨Hh, Hs, Hr⟩
  isplitl [Hs]; · iexact Hs
  iintro Hs
  iapply h
  isplitl [Hh]; · iexact Hh
  isplitl [Hs]; · iexact Hs
  iexact Hr

/-- A move of the mask alone. -/
theorem before_mask {α : Type} {Q : α → sProp 𝕄} {p q : Prog (TpuEff nD τ sig (Elt F) Λ₀ .tc) α} {σ : St} {k k' k₂ : ℕ}
    (H : iprop(Mask c X T₀ T₁ k' ∗ (Mask c X T₀ T₁ k₂ -∗ run c q Q)) ⊢ run c p Q)
    (h : Before c X Y₀ Y₁ T₀ T₁ arg3 arg4 σ k k₂ ⊢ run c q Q) : Before c X Y₀ Y₁ T₀ T₁ arg3 arg4 σ k k' ⊢ run c p Q := by
  refine BIBase.Entails.trans ?_ H
  unfold Before at h ⊢
  iintro ⟨Hh, Hs, Hm, Hr⟩
  isplitl [Hm]; · iexact Hm
  iintro Hm
  iapply h
  isplitl [Hh]; · iexact Hh
  isplitl [Hs]; · iexact Hs
  isplitl [Hm]; · iexact Hm
  iexact Hr

/-- A read of the first table, of the second. -/
theorem before_tab₀ {α : Type} {Q : α → sProp 𝕄} {p q : Prog (TpuEff nD τ sig (Elt F) Λ₀ .tc) α} {σ : St} {k k' : ℕ}
    (H : iprop(owns (c : Thread nD τ) arg3 fullShare T₀ ∗ (owns (c : Thread nD τ) arg3 fullShare T₀ -∗ run c q Q)) ⊢ run c p Q)
    (h : Before c X Y₀ Y₁ T₀ T₁ arg3 arg4 σ k k' ⊢ run c q Q) : Before c X Y₀ Y₁ T₀ T₁ arg3 arg4 σ k k' ⊢ run c p Q := by
  refine BIBase.Entails.trans ?_ H
  unfold Before at h ⊢
  iintro ⟨Hh, Hs, Hm, Ha, Hr⟩
  isplitl [Ha]; · iexact Ha
  iintro Ha
  iapply h
  isplitl [Hh]; · iexact Hh
  isplitl [Hs]; · iexact Hs
  isplitl [Hm]; · iexact Hm
  isplitl [Ha]; · iexact Ha
  iexact Hr
theorem before_tab₁ {α : Type} {Q : α → sProp 𝕄} {p q : Prog (TpuEff nD τ sig (Elt F) Λ₀ .tc) α} {σ : St} {k k' : ℕ}
    (H : iprop(owns (c : Thread nD τ) arg4 fullShare T₁ ∗ (owns (c : Thread nD τ) arg4 fullShare T₁ -∗ run c q Q)) ⊢ run c p Q)
    (h : Before c X Y₀ Y₁ T₀ T₁ arg3 arg4 σ k k' ⊢ run c q Q) : Before c X Y₀ Y₁ T₀ T₁ arg3 arg4 σ k k' ⊢ run c p Q := by
  refine BIBase.Entails.trans ?_ H
  unfold Before at h ⊢
  iintro ⟨Hh, Hs, Hm, Ha, Hb, Hr⟩
  isplitl [Hb]; · iexact Hb
  iintro Hb
  iapply h
  isplitl [Hh]; · iexact Hh
  isplitl [Hs]; · iexact Hs
  isplitl [Hm]; · iexact Hm
  isplitl [Ha]; · iexact Ha
  isplitl [Hb]; · iexact Hb
  iexact Hr
end

theorem body_run (hY : ∀ b, (mYb b).view.read (Elt F) Y₁ = chunkOut c X T₀ T₁ b) (t : Fin grid0.N) {Q : PUnit → sProp 𝕄}
    (hQ : Before c X Y₀ Y₁ T₀ T₁ arg3 arg4 (St.at_ (t + 1)) (t + 1) (t + 1) ⊢ Q ⟨⟩) :
    Before c X Y₀ Y₁ T₀ T₁ arg3 arg4 (St.at_ t) t t
      ⊢ run c (cc0__fused_kernel (grid0.coords t) mX (Memref.isWhole_whole _) arg3 harg3 arg4 harg4 mY (Memref.isWhole_whole _)
          mD (Memref.isWhole_whole _) mS (Memref.isWhole_whole _) mM (Memref.isWhole_whole _) cc0_scratch3 cc0_scratch4) Q := by
  rw [cc0__fused_kernel_eq_skeleton]; unfold cc0__fused_kernel_skel
  extract_lets +lift
  rename_i jp5 jp4 jp3 jp2 jp1 jp0 _ _ _ _ _ _ _ _ _ _ _ _ _ _
  have ht : t.val < 36 := N_0 ▸ t.isLt
  let t' : Fin 36 := ⟨t.val, ht⟩
  let σ1 := St.b1 t (St.at_ t)
  let σ2 := St.b2 t σ1
  let σ4 := St.b4 t σ2
  let σ5 := St.b5 t σ4
  have h5 : Before c X Y₀ Y₁ T₀ T₁ arg3 arg4 σ5 (t + 1) (t + 1) ⊢ run c (jp5 ⟨⟩) Q := by
    have hend : ∀ σ : St, σ = St.at_ (t + 1) → Before c X Y₀ Y₁ T₀ T₁ arg3 arg4 σ (t + 1) (t + 1) ⊢ run c (pure ⟨⟩) Q := by
      intro σ hσ
      rw [hσ]
      exact run_pure hQ
    refine run_if (fun h => ?_) (fun h => ?_)
    · have hk := (cond9_iff t).mp h
      have e : σ5 = last := by
        show St.b5 t.val (St.b4 t.val (St.b2 t.val (St.b1 t.val (St.at_ t.val)))) = _
        rw [hk]; rfl
      have e' : St.b6b last = St.at_ (t + 1) := by rw [hk]; rfl
      rw [e, k0_part6_eq_skeleton, run_bind]
      unfold k0_part6_skel
      refine before_wait (hold_wait_out c X Y₀ Y₁ _ (sl 25) (ch 25) b6_1.1 b6_1.2 rfl) ?_
      refine before_wait (hold_wait_out c X Y₀ Y₁ _ (sl 26) (ch 26) b6_2.1 b6_2.2 rfl) ?_
      refine before_wait (hold_wait_out c X Y₀ Y₁ _ (sl 27) (ch 27) b6_3.1 b6_3.2 rfl) ?_
      refine before_wait (hold_wait_out c X Y₀ Y₁ _ (sl 28) (ch 28) b6_4.1 b6_4.2 rfl) ?_
      refine run_pure ?_
      refine before_wait (hold_wait_out c X Y₀ Y₁ _ (sl 29) (ch 29) b6_5.1 b6_5.2 rfl) ?_
      refine before_wait (hold_wait_out c X Y₀ Y₁ _ (sl 30) (ch 30) b6_6.1 b6_6.2 rfl) ?_
      refine before_wait (hold_wait_out c X Y₀ Y₁ _ (sl 31) (ch 31) b6_7.1 b6_7.2 rfl) ?_
      exact hend _ e'
    · have hk := mt (cond9_iff t).mpr h
      exact hend _ (if_neg hk).symm
  have h3 : Before c X Y₀ Y₁ T₀ T₁ arg3 arg4 σ4 t (t + 1) ⊢ run c (jp3 ⟨⟩) Q := by
    refine run_if (fun h => ?_) (fun h => ?_)
    · have hk := (cond6_iff t).mp h
      obtain ⟨f1, f2⟩ := b5_coming t' hk
      have f3 := b5_held t' hk
      have e : σ5 = σ4.got (sl t) (ch t) := if_pos hk
      dsimp only
      rw [k0_part5_eq_skeleton]
      unfold k0_part5_skel
      refine before_wait (hold_wait_in c X Y₀ Y₁ σ4 (sl t) (ch t) f1 f2 (off13_eq t hk)) ?_
      rw [← e]
      refine before_op (hold_load c X Y₀ Y₁ σ5 (sl t) (ch t) f3 (off16_eq t hk)) ?_
      refine run_if (fun h' => ?_) (fun h' => ?_)
      · have h4 := (cond7_iff t).mp h'
        refine before_sums (load_skip c X t (off17_eq t hk h4)) ?_
        refine before_sums (store_sums c X t (t + 1) (off17_eq t hk h4) (by rw [Nat.add_sub_cancel, tot_first c X h4])) ?_
        exact run_if (fun h'' => absurd h4 ((cond8_iff t).mp h'')) fun _ => h5
      · have h4 := mt (cond7_iff t).mpr h'
        refine run_if (fun h'' => ?_) (fun h'' => absurd ((cond8_iff t).mpr h4) h'')
        refine before_sums (load_sums c X t (by omega) (by omega) ((off18_eq t hk h4).trans (by rw [sumRow_prev t h4]))) ?_
        refine before_sums (load_sums c X t (by omega) (by omega) ((off18_eq t hk h4).trans (by rw [sumRow_prev t h4]))) ?_
        exact before_sums (store_sums c X t (t + 1) (off18_eq t hk h4) (by rw [Nat.add_sub_cancel, tot_next c X h4])) h5
    · have hk := mt (cond6_iff t).mpr h
      have e : σ5 = σ4 := if_neg hk
      rw [e] at h5
      refine BIBase.Entails.trans ?_ h5
      unfold Before Sums
      iintro ⟨Hh, ⟨%f, Hs, -⟩, Hr⟩
      isplitl [Hh]; · iexact Hh
      isplitl [Hs]
      · iexists f
        isplitl [Hs]; · iexact Hs
        ipureintro; intro _ h'; omega
      iexact Hr
  have h2 : Before c X Y₀ Y₁ T₀ T₁ arg3 arg4 σ2 t (t + 1) ⊢ run c (jp2 ⟨⟩) Q := by
    refine run_if (fun h => ?_) (fun h => ?_)
    · have hk := (cond5_iff t).mp h
      obtain ⟨f1, f2, f3⟩ := b4_held t' hk
      have e : σ4 = (σ2.mask (sl (t - 4)) (ch (t - 4))).send (sl (t - 4)) (ch (t - 4)) := if_pos hk
      rw [e] at h3
      dsimp only
      rw [k0_part4_eq_skeleton, run_bind]
      unfold k0_part4_skel
      refine before_op (hold_load c X Y₀ Y₁ σ2 (sl (t - 4)) (ch (t - 4)) f1 (off9_eq t hk)) ?_
      refine before_mask (load_masks c X T₀ T₁ (t + 1) (by omega)) ?_
      refine before_op (hold_load c X Y₀ Y₁ σ2 (sl (t - 4)) (ch (t - 4)) f1 (off9_eq t hk)) ?_
      refine before_op (hold_store c X Y₀ Y₁ σ2 (sl (t - 4)) (ch (t - 4)) f1 (off9_eq t hk) ?_) ?_
      · rw [hY, chunkOut, show bat (t + 1 - 5) = bat (ch (t - 4)).val from Fin.ext (by simp only [bat, ch]; omega)]
      refine run_pure ?_
      exact before_op (hold_start_out c X Y₀ Y₁ _ (sl (t - 4)) (ch (t - 4)) f2 f3 (off10_eq t hk) (off12_eq t hk) (off11_eq t hk)) h3
    · have hk := mt (cond5_iff t).mpr h
      have e : σ4 = σ2 := if_neg hk
      rw [e] at h3
      exact h3
  have h1 : Before c X Y₀ Y₁ T₀ T₁ arg3 arg4 σ2 t t ⊢ run c (jp1 ⟨⟩) Q := by
    refine run_if (fun h => ?_) (fun h => ?_)
    · have hk := (cond4_iff t).mp h
      rw [k0_part3_eq_skeleton, run_bind]
      unfold k0_part3_skel
      have hb : 4 * (bat (t - 4)).val + 3 = t - 1 := by simp only [bat]; omega
      -- the sums of the batch that has just ended
      refine before_sums (k₂ := t) (q := _) (load_sums c X t (by omega) (by omega) (off7_eq t hk)) ?_
      refine before_tab₀ (load_tab c (v := bat (t - 4)) (off8_eq t hk) T₀) ?_
      refine run_pure ?_
      refine before_tab₁ (load_tab c (v := bat (t - 4)) (off8_eq t hk) T₁) ?_
      refine before_mask (k₂ := t + 1) (remask c X T₀ T₁ t ?_) h2
      rw [maskRow, hb]
    · have hk := mt (cond4_iff t).mpr h
      refine BIBase.Entails.trans ?_ h2
      unfold Before Mask
      iintro ⟨Hh, Hs, ⟨%f, Hm, %hf⟩, Hr⟩
      isplitl [Hh]; · iexact Hh
      isplitl [Hs]; · iexact Hs
      isplitl [Hm]
      · iexists f
        isplitl [Hm]; · iexact Hm
        ipureintro; intro h'
        rw [hf (by omega), show bat (t - 5) = bat (t + 1 - 5) from Fin.ext (by simp only [bat]; omega)]
      iexact Hr
  have h0 : Before c X Y₀ Y₁ T₀ T₁ arg3 arg4 σ1 t t ⊢ run c (jp0 ⟨⟩) Q := by
    refine run_if (fun h => ?_) (fun h => ?_)
    · have hk := (cond2_iff t).mp h
      obtain ⟨f1, f2⟩ := b2_free t' hk
      have e : σ2 = (St.b2w t σ1).recv (sl (t + 2)) (ch (t + 2)) := if_pos hk
      rw [e] at h1
      have cont := before_op (hold_start_in c X Y₀ Y₁ (St.b2w t σ1) (sl (t + 2)) (ch (t + 2)) f1 f2
          (off4_eq t hk) (off5_eq t hk) (off6_eq t hk) (i₁ := k0_off4_inb _ h) (i₂ := k0_off5_inb _ h) (i₃ := k0_off6_inb _ h)
          (hsrc := (View.wordExact_bits rfl).reshape _ _) (hdst := (View.wordExact_bits rfl).reshape _ _) (hsem := ⟨Or.inl rfl, trivial⟩)) h1
      dsimp only
      rw [k0_part2_eq_skeleton, run_bind]
      unfold k0_part2_skel
      refine run_if (fun h' => ?_) (fun h' => ?_)
      · have hk' := (cond3_iff t).mp h'
        have e' : St.b2w t σ1 = σ1.sent (sl (t - 5)) (ch (t - 5)) := if_pos hk'
        obtain ⟨g1, g2⟩ := b2_going t' hk hk'
        rw [e'] at cont
        rw [k0_part1_eq_skeleton]
        unfold k0_part1_skel
        refine before_wait (hold_wait_out c X Y₀ Y₁ σ1 (sl (t - 5)) (ch (t - 5)) g1 g2 (off1_eq t hk hk')) ?_
        exact run_pure cont
      · have e' : St.b2w t σ1 = σ1 := if_neg (mt (cond3_iff t).mpr h')
        rw [e'] at cont
        exact run_pure cont
    · have hk := mt (cond2_iff t).mpr h
      have e : σ2 = σ1 := if_neg hk
      rw [e] at h1
      exact h1
  refine run_if (fun h => ?_) (fun h => ?_)
  · have hk := (cond1_iff t).mp h
    have e : σ1 = (((St.at_ 0).recv (sl 0) (ch 0)).recv (sl 1) (ch 1)).recv (sl 2) (ch 2) := by
      show St.b1 t.val (St.at_ t.val) = _
      rw [hk]; rfl
    obtain ⟨f1, f2, f3, f4, f5, f6⟩ := b1_free
    simp only [lift_then]
    refine BIBase.Entails.trans ?_ (hold_start_in c X Y₀ Y₁ (St.at_ 0) (sl 0) (ch 0) f1 f2 rfl rfl rfl)
    unfold Before
    iintro ⟨Hh, Hr⟩
    isplitl [Hh]; · rw [← hk]; iexact Hh
    iintro Hh
    iapply (hold_start_in c X Y₀ Y₁ _ (sl 1) (ch 1) f3 f4 rfl rfl rfl)
    isplitl [Hh]; · iexact Hh
    iintro Hh
    iapply (hold_start_in c X Y₀ Y₁ _ (sl 2) (ch 2) f5 f6 rfl rfl rfl)
    isplitl [Hh]; · iexact Hh
    iintro Hh
    iapply h0
    unfold Before
    rw [e]
    isplitl [Hh]; · iexact Hh
    iexact Hr
  · have hk := mt (cond1_iff t).mpr h
    have e : σ1 = St.at_ t := if_neg hk
    rw [← e]
    exact h0

end Cert.Kernel.Hand

end
-- ==== Proof.Chunks.lean ====
/-
  The thirty-two chunks make up the input and the output, the seven slots the ring: disjoint, and nothing left over. What the
  whole output is to hold.
-/
module

public import proofs.«01_k».proof.Proof.Body
public import Idealize.ShloMosaic.Lib.ValueIdx

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix3)

/-! ## Which chunk an element lies in -/

/-- The chunk of a row of a batch, and the row's place in it. -/
abbrev chunkOf (n : Fin 8) (r : Fin 32768) : Fin 32 := ⟨n.val * 4 + r.val / 8192, by omega⟩
abbrev inChunk (r : Fin 32768) : Fin 8192 := ⟨r.val % 8192, by omega⟩

theorem mem_rowR (b : Fin 32) (i : S8x32768x256.Idx) : i ∈ (rowR b).set ↔ chunkOf (i 0) (i 1) = b := by
  have h0 : (i 0).val < 8 := (i 0).isLt
  have h1 : (i 1).val < 32768 := (i 1).isLt
  have h2 : (i 2).val < 256 := (i 2).isLt
  have hb := b.isLt
  rw [Rect.mem_set_unit, Fin.ext_iff]
  constructor
  · intro h
    have e0 := h 0
    have e1 := h 1
    have f0 : rowOff b 0 ≤ (i 0).val ∧ (i 0).val < rowOff b 0 + 1 := e0
    have f1 : rowOff b 1 ≤ (i 1).val ∧ (i 1).val < rowOff b 1 + 8192 := e1
    have g0 : rowOff b 0 = b.val / 4 := rfl
    have g1 : rowOff b 1 = b.val % 4 * 8192 := rfl
    show (i 0).val * 4 + (i 1).val / 8192 = b.val
    omega
  · intro h
    have h' : (i 0).val * 4 + (i 1).val / 8192 = b.val := h
    intro a
    match a with
    | ⟨0, _⟩ => show b.val / 4 ≤ (i 0).val ∧ (i 0).val < b.val / 4 + 1; omega
    | ⟨1, _⟩ => show b.val % 4 * 8192 ≤ (i 1).val ∧ (i 1).val < b.val % 4 * 8192 + 8192; omega
    | ⟨2, _⟩ => show 0 ≤ (i 2).val ∧ (i 2).val < 0 + 256; omega

theorem rowR_disjoint (b b' : Fin 32) (h : b ≠ b') : Disjoint (rowR b).set (rowR b').set := by
  rw [Finset.disjoint_left]
  intro i hi hi'
  exact h (((mem_rowR b i).mp hi).symm.trans ((mem_rowR b' i).mp hi'))

theorem rowR_cover : Finset.univ.biUnion (fun b => (rowR b).set) = Finset.univ := by
  ext i
  simp only [Finset.mem_biUnion, Finset.mem_univ, true_and, iff_true]
  exact ⟨_, (mem_rowR _ i).mpr rfl⟩

variable (c : Dev nD) (X : Buf (Elt F) (mX.view.loc (c : Thread nD τ))) (Y₀ Y₁ : Buf (Elt F) (mY.view.loc (c : Thread nD τ)))
  (T₀ T₁ : S8x1x256.Idx → Elt F .f32)

/-- The pieces' elements are the rectangles'. -/
theorem set_mXb (b : Fin 32) : (mXb b).view.set = (rowR b).set := View.set_slice_whole main_v3 (rowR b)
theorem set_mYb (b : Fin 32) : (mYb b).view.set = (rowR b).set := View.set_slice_whole main_v4 (rowR b)
theorem set_mSlot (s : Fin 7) : (mSlot s).view.set = (slotR s).set := View.set_slice_whole cc0_scratch0 (slotR s)

theorem xPt_eq (b : Fin 32) : (xPt c b X : sProp 𝕄) = (mX.view.loc (c : Thread nD τ) ↦[(rowR b).set]{fullShare} X) := by
  unfold xPt; rw [set_mXb]
theorem yPt_eq (b : Fin 32) : (yPt c b Y₀ : sProp 𝕄) = (mY.view.loc (c : Thread nD τ) ↦[(rowR b).set]{fullShare} Y₀) := by
  unfold yPt; rw [set_mYb]
theorem slotPt_eq (s : Fin 7) (f : Buf (Elt F) (mD.view.loc (c : Thread nD τ))) :
    (slotPt c s f : sProp 𝕄) = (mD.view.loc (c : Thread nD τ) ↦[(slotR s).set]{fullShare} f) := by
  unfold slotPt; rw [set_mSlot]

/-- The input, the output, the ring: whole, or piece by piece. -/
theorem x_pieces : (mX.view.loc (c : Thread nD τ) ↦{fullShare} X : sProp 𝕄) = bigSep Finset.univ fun b => xPt c b X := by
  simp only [xPt_eq]
  exact Ring.pointsTo_blocks (ℓ := mX.view.loc (c : Thread nD τ)) (fun b => (rowR b).set) rowR_disjoint rowR_cover X

theorem y_pieces : (mY.view.loc (c : Thread nD τ) ↦{fullShare} Y₀ : sProp 𝕄) = bigSep Finset.univ fun b => yPt c b Y₀ := by
  simp only [yPt_eq]
  exact Ring.pointsTo_blocks (ℓ := mY.view.loc (c : Thread nD τ)) (fun b => (rowR b).set) rowR_disjoint rowR_cover Y₀

theorem slotR_disjoint (s s' : Fin 7) (h : s ≠ s') : Disjoint (slotR s).set (slotR s').set :=
  Ring.lead_disjoint (s := S7x8192x256) (NB := 7) 0 1 slotOff S1x8192x256.size slotOff_inb (by decide +kernel) rfl s s' h
theorem slotR_cover : Finset.univ.biUnion (fun s => (slotR s).set) = Finset.univ :=
  Ring.lead_cover (s := S7x8192x256) (NB := 7) 0 1 slotOff S1x8192x256.size slotOff_inb (by decide +kernel) (by decide +kernel) rfl
    (by decide +kernel) rfl

theorem d_pieces (f : Buf (Elt F) (mD.view.loc (c : Thread nD τ))) :
    (mD.view.loc (c : Thread nD τ) ↦{fullShare} f : sProp 𝕄) = bigSep Finset.univ fun s => slotPt c s f := by
  simp only [slotPt_eq]
  exact Ring.pointsTo_blocks (ℓ := mD.view.loc (c : Thread nD τ)) (fun s => (slotR s).set) slotR_disjoint slotR_cover f
theorem d_join (f₀ : Buf (Elt F) (mD.view.loc (c : Thread nD τ))) :
    bigSep Finset.univ (fun s => iprop(∃ f, slotPt c s f)) ⊢ (iprop(∃ f, mD.view.loc (c : Thread nD τ) ↦{fullShare} f) : sProp 𝕄) := by
  simp only [slotPt_eq]
  exact Ring.pointsTo_blocks_join_exists (ℓ := mD.view.loc (c : Thread nD τ)) (fun s => (slotR s).set) slotR_disjoint slotR_cover f₀

/-! ## The whole output -/

/-- What the output holds at the end: each element from its own chunk. -/
def outAll : S8x32768x256.Idx → Elt F .f32 := fun i =>
  chunkOut c X T₀ T₁ (chunkOf (i 0) (i 1)) (ix3 (n0 := 1) (n1 := 8192) (n2 := 256) (0 : Fin 1) (inChunk (i 1)) (i 2))

/-- Where chunk `b`'s elements stand in the whole. -/
theorem rowR_emb (b : Fin 32) (x : S1x8192x256.Idx) :
    chunkOf ((rowR b).emb x 0) ((rowR b).emb x 1) = b
      ∧ ix3 (n0 := 1) (n1 := 8192) (n2 := 256) (0 : Fin 1) (inChunk ((rowR b).emb x 1)) ((rowR b).emb x 2) = x := by
  have h0 : (x 0).val < 1 := (x 0).isLt
  have h1 : (x 1).val < 8192 := (x 1).isLt
  have hb := b.isLt
  have e0 : ((rowR b).emb x 0).val = b.val / 4 + 1 * (x 0).val := rfl
  have e1 : ((rowR b).emb x 1).val = b.val % 4 * 8192 + 1 * (x 1).val := rfl
  have e2 : ((rowR b).emb x 2).val = 0 + 1 * (x 2).val := rfl
  refine ⟨Fin.ext ?_, ?_⟩
  · show ((rowR b).emb x 0).val * 4 + ((rowR b).emb x 1).val / 8192 = b.val
    omega
  · refine Shape.idx3_ext ?_ ?_ ?_
    · show 0 = (x 0).val; omega
    · show ((rowR b).emb x 1).val % 8192 = (x 1).val; omega
    · show ((rowR b).emb x 2).val = (x 2).val; omega

theorem read_outAll (b : Fin 32) : (mYb b).view.read (Elt F) (outAll c X T₀ T₁) = chunkOut c X T₀ T₁ b := by
  funext x
  obtain ⟨h1, h2⟩ := rowR_emb b x
  show outAll c X T₀ T₁ ((rowR b).emb x) = _
  unfold outAll
  rw [h1, h2]

end Cert.Kernel.Hand
-- ==== Proof.Frame.lean ====
/-
  The launch: what the grid starts from and what it leaves, the body at each of its thirty-six steps, and the whole run — it ends,
  nothing faults, the argument is unchanged, every counter is zero again, and the result is the output's chunks put back in the
  argument's order of axes.
-/
module

public import proofs.«01_k».proof.Proof.Chunks
public import proofs.«01_k».proof.Proof.Gen.Kernel.Frame
public import Idealize.ShloMosaic.Lib.Pipeline.FrameSuffixV
public import Idealize.ShloMosaic.Lib.StableHlo.Run

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the region finds -/

/-- The input as the kernel reads it, the output's buffer before the kernel, the two tables. -/
abbrev X_ (c : Dev nD) : Buf (Elt F) (mX.view.loc (c : Thread nD τ)) := V m c main_v3
abbrev Y_ (c : Dev nD) : Buf (Elt F) (mY.view.loc (c : Thread nD τ)) := V m c main_v4
abbrev T₀_ (c : Dev nD) : S8x1x256.Idx → Elt F .f32 := V m c main_v0
abbrev T₁_ (c : Dev nD) : S8x1x256.Idx → Elt F .f32 := V m c main_v1
/-- The output after it. -/
abbrev Z_ (c : Dev nD) : Buf (Elt F) (mY.view.loc (c : Thread nD τ)) := outAll c (X_ m c) (T₀_ m c) (T₁_ m c)

/-- A table's one block is the whole table. -/
theorem iblk_0 (c : Dev nD) (t : Fin cfg0.N) : iblk m c 0 t = T₀_ m c := by
  funext x
  refine congrArg (T₀_ m c) (Shape.idx3_ext ?_ ?_ ?_)
  · show 0 * 8 + 1 * (x 0).val = (x 0).val; omega
  · show 0 * 1 + 1 * (x 1).val = (x 1).val; omega
  · show 0 * 256 + 1 * (x 2).val = (x 2).val; omega
theorem iblk_1 (c : Dev nD) (t : Fin cfg0.N) : iblk m c 1 t = T₁_ m c := by
  funext x
  refine congrArg (T₁_ m c) (Shape.idx3_ext ?_ ?_ ?_)
  · show 0 * 8 + 1 * (x 0).val = (x 0).val; omega
  · show 0 * 1 + 1 * (x 1).val = (x 1).val; omega
  · show 0 * 256 + 1 * (x 2).val = (x 2).val; omega

/-! ## The kernel's own semaphores, operands and result -/

/-- The seven semaphores of the copies in, the seven of the copies out. -/
abbrev osem0 : Fin 7 ⊕ Fin 7 → SemLoc sig := Sum.elim (fun s => .dma (inS s)) (fun s => .dma (outS s))
theorem ownSemFacts0 : Pipeline.OwnSemFacts spec0 osem0 := by decide +kernel
theorem ownSems_eq (c : Dev nD) :
    (Pipeline.ownSems0 (Ix := Unit) (Name := ℕ) (U := Pipeline.UD sig nD τ) (Lvl := ℕ) (Val := Elt F) (τ := τ) osem0 c : sProp 𝕄)
      = iprop((bigSep Finset.univ fun s => inV c s) ∗ bigSep Finset.univ fun s => outV c s) := by
  unfold Pipeline.ownSems0
  rw [bigSep_univ_sum]
  rfl

def H0 : Finset (Ref sig .tc) := {main_v3}
def R0 : Finset (Ref sig .tc) := {main_v4}
theorem H0_sub : H0 ⊆ Pipeline.restRefs sig spec0 := by decide
theorem R0_sub : R0 ⊆ Pipeline.restRefs sig spec0 \ H0 := by decide

/-- The written buffer's contents at the end (the others' are not looked at). -/
def G (c : Dev nD) (b : Ref sig .tc) : Buf (Elt F) ((c : Thread nD τ).loc b) :=
  if h : b = main_v4 then h ▸ Z_ m c else V m c b
theorem G_v4 (c : Dev nD) : G m c main_v4 = Z_ m c := by unfold G; rw [dif_pos rfl]

/-! ## The invariant -/

/-- The invariant before step `k`: the ring's state, the sums, the mask. -/
def Inv (c : Dev nD) (k : ℕ) : sProp 𝕄 :=
  iprop(Hold c (X_ m c) (Y_ m c) (Z_ m c) (St.at_ k) ∗ Sums c (X_ m c) k ∗ Mask c (X_ m c) (T₀_ m c) (T₁_ m c) k)

/-- The proof data: the arrays as the region finds them, the tables left in place, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => T₀_ m c
    | ⟨1, _⟩ => T₁_ m c
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = T₀_ m c := by dsimp only [dats]
theorem after_1 (c : Dev nD) (t : Fin cfg0.N) : (dats m 0 c).after 1 t = T₁_ m c := by dsimp only [dats]
theorem before_0 (c : Dev nD) (t : Fin cfg0.N) (d) : (dats m 0 c).before 0 t d = T₀_ m c :=
  (((dats m 0 c).before_in_eq_fetched 0 rfl (fun _ => rfl) (fun _ _ _ => rfl)
    (fun t => by rw [after_0, ← iblk_0 m c t]; unfold Dat.blockOf iblk; rw [A_eq]; try rfl) t d).trans
    (by unfold Dat.fetched Dat.blockOf; rw [A_eq]; rfl)).trans (iblk_0 m c t)
theorem before_1 (c : Dev nD) (t : Fin cfg0.N) (d) : (dats m 0 c).before 1 t d = T₁_ m c :=
  (((dats m 0 c).before_in_eq_fetched 1 rfl (fun _ => rfl) (fun _ _ _ => rfl)
    (fun t => by rw [after_1, ← iblk_1 m c t]; unfold Dat.blockOf iblk; rw [A_eq]; try rfl) t d).trans
    (by unfold Dat.fetched Dat.blockOf; rw [A_eq]; rfl)).trans (iblk_1 m c t)

/-- The staging buffer as its seven slots, each holding whatever it holds. -/
theorem d_split (c : Dev nD) (f : Buf (Elt F) (mD.view.loc (c : Thread nD τ))) :
    (mD.view.loc (c : Thread nD τ) ↦{fullShare} f : sProp 𝕄) ⊢ bigSep Finset.univ fun s => iprop(∃ f, slotPt c s f) := by
  rw [d_pieces]
  refine bigSep_mono fun s _ => ?_
  show slotPt c s f ⊢ iprop(∃ f, slotPt c s f)
  iintro H; iexists f; iexact H

/-- The invariant is entered from what the launch holds, -/
theorem enter (c : Dev nD) : Pipeline.ΦDRV osem0 spec0 H0 R0 (fun c b => V m c b) (fun c b => V m c b) c ⊢ Inv m c 0 := by
  unfold Pipeline.ΦDRV Inv H0 R0
  rw [bigSep_singleton, bigSep_singleton, scopedRest0_eq, ownSems_eq]
  unfold Hold Ring.AtW Sums Mask
  show _ ⊢ iprop((bigSep Finset.univ (fun s => slotΦ c (X_ m c) (Z_ m c) s .free) ∗ bigSep Finset.univ (fun b => xΦ c (X_ m c) b true)
    ∗ bigSep Finset.univ (fun b => yΦ c (Y_ m c) (Z_ m c) b .todo)) ∗ _ ∗ _)
  simp only [slotΦ, xΦ, yΦ]
  rw [bigSep_sep', bigSep_sep', ← x_pieces, ← y_pieces]
  iintro ⟨⟨⟨%f, Hd⟩, ⟨%g, Hs⟩, ⟨%h, Hm⟩⟩, ⟨Hi, Ho⟩, Hx, Hy⟩
  isplitl [Hd Hi Ho Hx Hy]
  · isplitl [Hd Hi Ho]
    · isplitl [Hi]; · iexact Hi
      isplitl [Ho]; · iexact Ho
      iapply (d_split c f); iexact Hd
    isplitl [Hx]; · iexact Hx
    iexact Hy
  isplitl [Hs]
  · iexists g
    isplitl [Hs]; · iexact Hs
    ipureintro; intro h'; omega
  · iexists h
    isplitl [Hm]; · iexact Hm
    ipureintro; intro h'; omega

/-- and gives it back at the end with the output written. -/
theorem leave (c : Dev nD) : Inv m c 36 ⊢ Pipeline.ΦDRV osem0 spec0 H0 R0 (fun c b => V m c b) (G m) c := by
  unfold Pipeline.ΦDRV Inv H0 R0
  rw [bigSep_singleton, bigSep_singleton, scopedRest0_eq, ownSems_eq, G_v4]
  unfold Hold Ring.AtW Sums Mask
  rw [end_slot, end_xs, end_ys]
  simp only [slotΦ, xΦ, yΦ]
  rw [bigSep_sep', bigSep_sep', ← x_pieces, ← y_pieces]
  iintro ⟨⟨⟨Hi, Ho, Hd⟩, Hx, Hy⟩, ⟨%g, Hs, -⟩, ⟨%h, Hm, -⟩⟩
  isplitl [Hd Hs Hm]
  · isplitl [Hd]
    · iapply (d_join c (Classical.arbitrary _)); iexact Hd
    isplitl [Hs]; · iexists g; iexact Hs
    iexists h; iexact Hm
  isplitl [Hi Ho]
  · isplitl [Hi]; · iexact Hi
    iexact Ho
  isplitl [Hx]; · iexact Hx
  iexact Hy

/-! ## The body at a step -/

theorem Φ_before (c : Dev nD) (t : Fin cfg0.N) : (dats m 0 c).Φ t.castSucc = Inv m c t.val := by dsimp only [dats]; rfl
theorem Φ_after (c : Dev nD) (t : Fin cfg0.N) : (dats m 0 c).Φ t.succ = Inv m c (t.val + 1) := by dsimp only [dats]; rfl

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (body_run c (X_ m c) (Y_ m c) (Z_ m c) (T₀_ m c) (T₁_ m c) (st0_0 t) (st0_1 t)
    (hstage0_0 ((cfg0.slots t 0).cast nbuf0_0)) (hstage0_1 ((cfg0.slots t 1).cast nbuf0_1))
    (read_outAll c (X_ m c) (T₀_ m c) (T₁_ m c)) t ?_)
  · unfold bodyPre Before
    rw [Φ_before]
    unfold Inv
    simp only [before_0, before_1]
    iintro ⟨⟨Hh, Hs, Hm⟩, ⟨%W, -, HO⟩, ⟨%_, Ha⟩, ⟨%_, Hb⟩⟩
    isplitl [Hh]; · iexact Hh
    isplitl [Hs]; · iexact Hs
    isplitl [Hm]; · iexact Hm
    isplitl [Ha]; · iexact Ha
    isplitl [Hb]; · iexact Hb
    iexists W; iexact HO
  · unfold bodyPost Before
    rw [Φ_after, after_0, after_1]
    unfold Inv
    iintro ⟨Hh, Hs, Hm, Ha, Hb, ⟨%W, HO⟩⟩
    isplitl [Hh Hs Hm]
    · isplitl [Hh]; · iexact Hh
      isplitl [Hs]; · iexact Hs
      iexact Hm
    isplitl [HO]
    · iexists W; isplitr; · ipureintro; exact fun _ _ => Or.inl trivial
      iexact HO
    isplitl [Ha]; · iexact Ha
    iexact Hb

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The program around its region. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers after the program's last lines. -/
abbrev atEnd (c : Dev nD) : Valuation τ sig (Elt F) :=
  StableHlo.after ([hostOps1] : List (List (HloOp τ sig (Elt F)))).flatten
    (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      ∀ b ∈ Pipeline.restRefs sig spec0, r.2.mem ((c : Thread nD τ).loc b) = atEnd m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := main_around m Variants.none) (hA := A_eq m) (hin := enter m) (hout := fun c => by
      have e : (dats m 0 c).Φ (Fin.last cfg0.N) = Inv m c 36 := by
        dsimp only [dats]; exact congrArg (Inv m c) (show (Fin.last cfg0.N).val = 36 from N_0)
      rw [e]; exact leave m c)
    (Q' := fun r => (∀ c : Dev nD,
      ∀ b ∈ Pipeline.restRefs sig spec0, r.2.mem ((c : Thread nD τ).loc b) = atEnd m c (Proc.devRef .tc b)) ∧ r.2.sem = fun _ => 0)
    (hQ' := fun _ h => ⟨fun c => (h.1 c).2, h.2⟩)

end Cert.Kernel.Hand
-- ==== Proof.Result.lean ====
/-
  The run read at the program's own buffers: the argument is unchanged, every counter is zero again, and the result is a term of the
  argument — the kernel's chunks over the argument with the channels last, put back with the channels second.
-/
module

public import proofs.«01_k».proof.Proof.Frame
public import Idealize.ShloMosaic.Lib.StableHlo.RunHlo

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat)

variable (m : (ℓ : Loc nD τ sig) → Buf (Elt F) ℓ) (ρ : Dev nD → PrngReg)

/-- The argument with the channels last, its three spatial axes one axis of rows. -/
def rowsOf (x : S8x256x32x32x32.Idx → Elt F .f32) : S8x32768x256.Idx → Elt F .f32 :=
  shapeCast S8x32768x256 (transpose S8x32x32x32x256 [0, 2, 3, 4, 1] x transposes_S8x256x32x32x32_S8x32x32x32x256_0_2_3_4_1)
    shapeCasts_S8x32x32x32x256_S8x32768x256
/-- The way back. -/
def ofRows (y : S8x32768x256.Idx → Elt F .f32) : S8x256x32x32x32.Idx → Elt F .f32 :=
  transpose S8x256x32x32x32 [0, 4, 1, 2, 3] (shapeCast S8x32x32x32x256 y shapeCasts_S8x32768x256_S8x32x32x32x256)
    transposes_S8x32x32x32x256_S8x256x32x32x32_0_4_1_2_3
/-- The two tables of draws. -/
def noise : S8x1x256.Idx → Elt F .f32 :=
  broadcastInDim S8x1x256 ![0, 2] bcast_S8x256_S8x1x256_0_2 fun i => FloatOps.ofBits .f32 (lit0 (S8x256.rowMajor i))
def draws : S8x1x256.Idx → Elt F .f32 :=
  broadcastInDim S8x1x256 ![0, 2] bcast_S8x256_S8x1x256_0_2 fun i => FloatOps.ofBits .f32 (lit1 (S8x256.rowMajor i))

theorem X_eq (c : Dev nD) : X_ m c = rowsOf (m ((c : Thread nD τ).loc main_arg0)) := by
  show StableHlo.after hostOps0 (fun b => m (c, b)) (Proc.devRef .tc main_v3) = _
  after_results_simp
  rfl
theorem T₀_eq (c : Dev nD) : T₀_ m c = noise := by
  show StableHlo.after hostOps0 (fun b => m (c, b)) (Proc.devRef .tc main_v0) = _
  after_results_simp
  rfl
theorem T₁_eq (c : Dev nD) : T₁_ m c = draws := by
  show StableHlo.after hostOps0 (fun b => m (c, b)) (Proc.devRef .tc main_v1) = _
  after_results_simp
  rfl

/-- The kernel's result of an argument. -/
def result (c : Dev nD) (x : S8x256x32x32x32.Idx → Elt F .f32) : S8x256x32x32x32.Idx → Elt F .f32 :=
  ofRows (outAll c (rowsOf x) noise draws)

theorem atEnd_v6 (c : Dev nD) : atEnd m c (Proc.devRef .tc main_v6) = result c (m ((c : Thread nD τ).loc main_arg0)) := by
  have e : Pipeline.withArrays spec0 c (Pipeline.withR (V0 m c) R0 c (G m c)) (fun w => (dats m 0 c).arrAt w cfg0.N) (Proc.devRef .tc main_v4)
      = outAll c (rowsOf (m ((c : Thread nD τ).loc main_arg0))) noise draws := by
    rw [Pipeline.withArrays_of_ne _ _ _ _ main_v4 (by decide)]
    rw [Pipeline.withR_of_mem (V0 m c) R0 c (G m c) main_v4 (by decide), G_v4, Z_, X_eq, T₀_eq, T₁_eq]
  unfold atEnd result ofRows
  rw [← e]
  show StableHlo.after hostOps1 _ (Proc.devRef .tc main_v6) = _
  after_results_simp
  rfl

theorem atEnd_arg0 (c : Dev nD) : atEnd m c (Proc.devRef .tc main_arg0) = m ((c : Thread nD τ).loc main_arg0) := by
  have e : Pipeline.withArrays spec0 c (Pipeline.withR (V0 m c) R0 c (G m c)) (fun w => (dats m 0 c).arrAt w cfg0.N) (Proc.devRef .tc main_arg0)
      = m ((c : Thread nD τ).loc main_arg0) := by
    rw [Pipeline.withArrays_of_ne _ _ _ _ main_arg0 (by decide)]
    rw [Pipeline.withR_of_not_mem (V0 m c) R0 c (G m c) main_arg0 (by decide)]
    exact V_main_arg0 m c
  rw [← e]
  show StableHlo.after hostOps1 _ (Proc.devRef .tc main_arg0) = _
  after_results_simp

/-- The whole run. -/
theorem run_result : θ_run defs (onTc (τ := τ) (main (F := F))) (s₀ m ρ) (fun r => (∀ c : Dev nD,
      r.2.mem ((c : Thread nD τ).loc main_v6) = result c (m ((c : Thread nD τ).loc main_arg0))
      ∧ r.2.mem ((c : Thread nD τ).loc main_arg0) = m ((c : Thread nD τ).loc main_arg0)) ∧ r.2.sem = fun _ => 0) :=
  θ_run_mono (run_main m ρ) fun r h => ⟨fun c =>
    ⟨(h.1 c main_v6 (Pipeline.mem_restRefs_of main_v6 (by decide) (by decide))).trans (atEnd_v6 m c),
     (h.1 c main_arg0 (Pipeline.mem_restRefs_of main_arg0 (by decide) (by decide))).trans (atEnd_arg0 m c)⟩, h.2⟩

end Cert.Kernel.Hand
-- ==== Proof.Twin.lean ====
/-
  The kernel read at the ideal instance is, definition for definition, the kernel as printed for the machine (no operation was
  rewritten), so its run is the run already proved: the two tables of bodies are equal, label by label, and the rest is by computation.
-/
module

public import proofs.«01_k».proof.Proof.Result
public import proofs.«01_k».proof.Proof.Gen.KernelIdeal

@[expose] public section

noncomputable section

namespace Cert.KernelIdeal.Hand

open Idealize.ShloMosaic Idealize.ShloMosaic.TcCoe Idealize.SL.Sem

variable {F : FTy → Type} [FloatOps F]

/-- The kernel's body is the same body; -/
theorem defs₀_eq : Cert.KernelIdeal.defs₀ (F := F) = Cert.Kernel.defs₀ := by
  unfold Cert.KernelIdeal.defs₀ Cert.Kernel.defs₀
  refine congrArg (Defs.onTc (nD := Cert.Kernel.nD) (τ := Cert.Kernel.τ) (sig := Cert.Kernel.sig) (Val := Elt F) (Λ := Cert.Kernel.Λ₀)) ?_
  funext l x
  match l, x with
  | ⟨0, _⟩, (t, s) => rfl

/-- with the pipeline around it, the same table. -/
theorem defs_eq : Cert.KernelIdeal.defs (F := F) = Cert.Kernel.defs := by
  unfold Cert.KernelIdeal.defs Cert.Kernel.defs
  exact congrArg (Pipeline.defs (nD := Cert.Kernel.nD) (τ := Cert.Kernel.τ) Cert.Kernel.pcfgs) defs₀_eq

/-- The run, at this reading. -/
theorem run_result (m : (ℓ : Loc Cert.KernelIdeal.nD Cert.KernelIdeal.τ Cert.KernelIdeal.sig) → Buf (Elt F) ℓ) (ρ : Dev Cert.KernelIdeal.nD → PrngReg) :
   θ_run Cert.KernelIdeal.defs (onTc (τ := Cert.KernelIdeal.τ) (Cert.KernelIdeal.main (F := F))) ⟨m, fun _ => 0, ρ⟩ (fun r => (∀ c : Dev Cert.KernelIdeal.nD,
      r.2.mem ((c : Thread Cert.KernelIdeal.nD Cert.KernelIdeal.τ).loc Cert.KernelIdeal.main_v6) = Cert.Kernel.Hand.result c (m ((c : Thread Cert.KernelIdeal.nD Cert.KernelIdeal.τ).loc Cert.KernelIdeal.main_arg0))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)) ∧ r.2.sem = fun _ => 0) := by
  rw [defs_eq]
  exact Cert.Kernel.Hand.run_result (F := F) m ρ

end Cert.KernelIdeal.Hand
-- ==== Proof.Rank.lean ====
/-
  Which elements of a row are among its `k` greatest, by counting: the rank of an element is the number of elements that come before
  it — the greater ones, and of the equal ones those at a lower index. The first `k` places of the stable descending sort hold exactly
  the elements of rank below `k`.
-/
module

public import Idealize.ShloMosaic.Lib.SortFacts
public import Idealize.ShloMosaic.Lib.SortPrefix

@[expose] public section

namespace Cert.Rank

open Idealize.ShloMosaic

variable {n : ℕ} {α : Type} [LinearOrder α] (p : Fin n → α)

/-- `j` comes before `i` in the descending order of the row. -/
abbrev Before (j i : Fin n) : Prop := p i < p j ∨ (p j = p i ∧ j < i)

/-- The number of elements before `i`. -/
def rank (i : Fin n) : ℕ := (Finset.univ.filter fun j => Before p j i).card

/-- The order as the sort takes it: greater first, then the lower index; -/
def beforeB (k k' : Fin n) : Bool := decide (p k' < p k) || (decide (p k = p k') && decide (k < k'))
/-- and with the values alone. -/
def greaterB (k k' : Fin n) : Bool := decide (p k' < p k)

theorem beforeB_iff (j i : Fin n) : beforeB p j i = true ↔ Before p j i := by
  simp only [beforeB, Bool.or_eq_true, Bool.and_eq_true, decide_eq_true_eq]

theorem beforeB_total : StrictTotalBefore (beforeB p) :=
  StrictTotalBefore.of_key_then_position (fun a b : α => decide (b < a)) p (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- The insertion sort of an ascending list of positions asks of two positions only whether the later comes before the earlier. -/
theorem stableSort_of_later {R R' : Fin n → Fin n → Bool} (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So the stable sort by the values alone is the sort by the full order. -/
theorem sortedFrom_greater : sortedFrom (greaterB p) = sortedFrom (beforeB p) := by
  have e : sortPositions n (greaterB p) = sortPositions n (beforeB p) :=
    stableSort_of_later (fun a b hab => by
      unfold greaterB beforeB
      rw [show decide (b < a) = false from decide_eq_false (not_lt.mpr hab.le), Bool.and_false, Bool.or_false]) _ (List.pairwise_lt_finRange n)
  funext k
  unfold sortedFrom
  rw [List.get_of_eq e]
  rfl

theorem sorted_lt {a b : Fin n} (h : a < b) : Before p (sortedFrom (beforeB p) a) (sortedFrom (beforeB p) b) := by
  have hB := beforeB_total p
  have h' := sortedFrom_noInversion (beforeB p) (beforeB p) (fun a b => hB.asymm a b) (fun _ _ h => h) hB.negTrans a b h
  rw [← beforeB_iff]
  rcases hB.total _ _ (fun e => (ne_of_lt h) (sortedFrom_injective _ e)) with h'' | h''
  · exact h''
  · rw [h''] at h'; exact absurd h' (by decide)

theorem sorted_lt_iff (a b : Fin n) : Before p (sortedFrom (beforeB p) a) (sortedFrom (beforeB p) b) ↔ a < b := by
  refine ⟨fun h => ?_, sorted_lt p⟩
  have hB := beforeB_total p
  rw [← beforeB_iff] at h
  rcases lt_trichotomy a b with h' | h' | h'
  · exact h'
  · subst h'; rw [hB.irrefl] at h; exact absurd h (by decide)
  · have := hB.asymm _ _ ((beforeB_iff p _ _).mpr (sorted_lt p h')); rw [h] at this; exact absurd this (by decide)

/-- The element at place `k` has rank `k`. -/
theorem rank_sorted (k : Fin n) : rank p (sortedFrom (greaterB p) k) = k.val := by
  rw [sortedFrom_greater]
  unfold rank
  have e : (Finset.univ.filter fun j => Before p j (sortedFrom (beforeB p) k))
      = (Finset.univ.filter fun a : Fin n => a < k).map ⟨sortedFrom (beforeB p), sortedFrom_injective _⟩ := by
    ext j
    simp only [Finset.mem_filter, Finset.mem_univ, true_and, Finset.mem_map, Function.Embedding.coeFn_mk]
    constructor
    · intro h
      obtain ⟨a, rfl⟩ := sortedFrom_surjective (beforeB p) j
      exact ⟨a, (sorted_lt_iff p a k).mp h, rfl⟩
    · rintro ⟨a, ha, rfl⟩
      exact sorted_lt p ha
  rw [e, Finset.card_map]
  have e' : (Finset.univ.filter fun a : Fin n => a < k) = Finset.Iio k := by ext; simp
  rw [e', Fin.card_Iio]

/-- The first `k` places hold the elements of rank below `k`. -/
theorem mem_first_iff {k : ℕ} (hk : k ≤ n) (i : Fin n) :
    (∃ a : Fin k, sortedFrom (greaterB p) (a.castLE hk) = i) ↔ rank p i < k := by
  constructor
  · rintro ⟨a, rfl⟩
    rw [rank_sorted]; exact a.isLt
  · intro h
    obtain ⟨a, rfl⟩ := sortedFrom_surjective (greaterB p) i
    rw [rank_sorted] at h
    exact ⟨⟨a.val, h⟩, rfl⟩

end Cert.Rank
-- ==== Proof.Pay.lean ====
/-
  The kernel body's values over the extended reals: the sums over a chunk's rows, the comparison that keeps the 226 greatest scores of a
  batch, the mask row, and the product of a chunk with it.
-/
module

public import proofs.«01_k».proof.Proof.Rank
public import proofs.«01_k».proof.Proof.Gen.Kernel.Skeleton
public import Idealize.ShloMosaic.Lib.Pointwise
public import Idealize.ShloMosaic.PureOps.Ideal

@[expose] public section

noncomputable section

namespace Cert.Pay

open Cert.Kernel Cert.Kernel.Gen Cert.Rank
open Idealize.ShloMosaic

/-- A channel's score: the logarithm of its mean, held above a small positive number, plus its noise. -/
def score (mean noise : EReal) : EReal := Ideal.log (max mean (Ideal.ofBits .f32 0x0DA24260#32)) + noise

/-- The bits of a logical value as a number. -/
theorem word_of_bit (b : BitVec 1) : (FloatOps.sitofp .f32 (b.setWidth 32) : Ideal .f32) = if b = 1#1 then 1 else 0 := by
  have e : b = 0#1 ∨ b = 1#1 := by revert b; decide
  rcases e with rfl | rfl
  · show (((((0#1).setWidth 32).toInt : ℤ) : ℝ) : EReal) = _
    rw [if_neg (by decide), show ((0#1).setWidth 32).toInt = 0 from by decide]; simp
  · show (((((1#1).setWidth 32).toInt : ℤ) : ℝ) : EReal) = _
    rw [if_pos rfl, show ((1#1).setWidth 32).toInt = 1 from by decide]; simp

/-- A sum of ones and zeros counts the ones. -/
theorem sum_count {n : ℕ} (q : Fin n → Prop) [DecidablePred q] :
    (∑ k : Fin n, if q k then (1 : EReal) else 0) = (((Finset.univ.filter q).card : ℝ) : EReal) := by
  rw [Finset.sum_boole]; simp

theorem lit226 : Ideal.ofBits .f32 0x43620000#32 = ((226 : ℝ) : EReal) := by
  simp [Ideal.ofBits, Ideal.ieee, -EReal.coe_mul]; norm_num

theorem ofBool_eq_one (P : Prop) [Decidable P] : (BitVec.ofBool (decide P) = 1#1) ↔ P := by
  by_cases h : P <;> simp [h]

/-- The compare of one pair, as the body takes it. -/
theorem pair_bit (a b : EReal) (i j : Fin 256) :
    (IntOp.ori (BitVec.ofBool (decide (a < b))) (IntOp.andi (BitVec.ofBool (decide (b = a)))
      (IntOp.cmpi .slt (BitVec.ofNat 32 j.val) (BitVec.ofNat 32 i.val))) = 1#1) ↔ (a < b ∨ (b = a ∧ j < i)) := by
  have e : IntOp.cmpi .slt (BitVec.ofNat 32 j.val) (BitVec.ofNat 32 i.val) = BitVec.ofBool (decide (j < i)) := by
    show BitVec.ofBool ((BitVec.ofNat 32 j.val).slt (BitVec.ofNat 32 i.val)) = _
    congr 1
    have hi := i.isLt; have hj := j.isLt
    rw [BitVec.slt_eq_decide, BitVec.toInt_eq_toNat_of_lt (by simp; omega), BitVec.toInt_eq_toNat_of_lt (by simp; omega)]
    simp only [BitVec.toNat_ofNat, Nat.mod_eq_of_lt (show j.val < 2 ^ 32 by omega), Nat.mod_eq_of_lt (show i.val < 2 ^ 32 by omega)]
    simp
  rw [e]
  by_cases h₁ : a < b <;> by_cases h₂ : b = a <;> by_cases h₃ : j < i <;> simp [h₁, h₂, h₃, IntOp.ori, IntOp.andi]

theorem pay2_apply (v : Vec Ideal S1x8192x256 .f32) (i : Fin 256) :
    k0_pay2 (F := Ideal) v (ix2 0 i) = ∑ k : Fin 8192, v (ix3 0 k i) := by
  unfold k0_pay2
  simp only [pointwise]

theorem pay3_apply (v : Vec Ideal S1x8192x256 .f32) (i : Fin 256) :
    k0_pay3 (F := Ideal) v (ix2 0 i) = ∑ k : Fin 8192, v (ix3 0 k i) := by
  unfold k0_pay3
  simp only [pointwise]
  exact pay2_apply v i

theorem pay4_apply (v : Vec Ideal S1x8192x256 .f32) (s : Vec Ideal S1x256 .f32) (i : Fin 256) :
    k0_pay4 (F := Ideal) v s (ix2 0 i) = s (ix2 0 i) + ∑ k : Fin 8192, v (ix3 0 k i) := by
  unfold k0_pay4
  simp only [pointwise]
  exact congrArg _ (pay2_apply v i)

theorem pay5_apply (s : Vec Ideal S1x256 .f32) (t : Vec Ideal S1x1x256 .f32) (i : Fin 256) :
    k0_pay5 (F := Ideal) s t (ix2 0 i)
      = BitVec.ofBool (decide (rank (fun k => score (s (ix2 0 k) * Ideal.ofBits .f32 0x38000000#32) (t (ix3 0 0 k))) i < 226)) := by
  unfold k0_pay5
  simp only [pointwise, word_of_bit, lit226]
  congr 1
  refine decide_eq_decide.mpr ?_
  have e : ∀ j : Fin 256, (List.foldl (fun n a => n * ![1, 256, 256] a + (ix3 (0 : Fin 1) i j a).val) 0 [2]) = j.val := fun j => by
    simp [ix3]
  have e' : ∀ j : Fin 256, (List.foldl (fun n a => n * ![1, 256, 256] a + (ix3 (0 : Fin 1) i j a).val) 0 [1]) = i.val := fun j => by
    simp [ix3]
  simp only [e, e']
  simp only [pair_bit, show ¬ (256 = 1) by decide, dite_false]
  rw [sum_count, EReal.coe_lt_coe_iff, show (226 : ℝ) = ((226 : ℕ) : ℝ) by norm_num, Nat.cast_lt]
  rfl

theorem pay1_apply (b : IVec S1x256 1) (u : Vec Ideal S1x1x256 .f32) (i : Fin 256) :
    k0_pay1 (F := Ideal) b u (ix2 0 i)
      = if b (ix2 0 i) = 1#1 ∧ Ideal.ofBits .f32 0x3E460946#32 < u (ix3 0 0 i) then 1 else 0 := by
  unfold k0_pay1
  simp only [pointwise, word_of_bit]
  have h : ∀ w : BitVec 1, (w = 0#1 ∨ w = 1#1) := by decide
  rcases h (b (ix2 0 i)) with e | e <;> by_cases h' : Ideal.ofBits .f32 0x3E460946#32 < u (ix3 0 0 i) <;> simp [e, h', IntOp.andi]

theorem pay6_apply (x : Vec Ideal S1x8192x256 .f32) (u : Vec Ideal S1x256 .f32) (r : Fin 8192) (i : Fin 256) :
    k0_pay6 (F := Ideal) x u (ix3 0 r i) = x (ix3 0 r i) * u (ix2 0 i) := by
  unfold k0_pay6
  simp only [pointwise]
  rfl

end Cert.Pay
-- ==== Proof.Chosen.lean ====
/-
  The reference's term over the extended reals, read at an index: its scores, the channels its top-k chooses, the mask its scatter
  writes from them, and the product. A channel is kept exactly when its rank among its batch's scores is below 226.
-/
module

public import proofs.«01_k».proof.Proof.Pay
public import proofs.«01_k».proof.Proof.Gen.ReferenceIdeal.Run
public import Idealize.ShloMosaic.Lib.Pointwise
public import Idealize.ShloMosaic.Lib.IdealHost
public import Idealize.ShloMosaic.Lib.ScatterToDense.RefScatter
public import Idealize.ShloMosaic.PureOps.Ideal

@[expose] public section

noncomputable section

namespace Cert.RefRead

open Cert.ReferenceIdeal Cert.ReferenceIdeal.Gen Cert.Rank
open Idealize.ShloMosaic

variable (x : S8x256x32x32x32.Idx → Elt Ideal .f32)

/-- The scores of all batches. -/
def scores : S8x256.Idx → Elt Ideal .f32 :=
  addf (F := Ideal) (φ := .f32) (Host.log (maximumf (Host.divf
      (Host.reduceAdd x (constant S_ .f32 0x00000000#32) reducesTo_S8x256x32x32x32_S8x256_d2_3_4 h_S_)
      (broadcastInDim S8x256 ![] bcast_S_S8x256 (constant S_ .f32 0x47000000#32)))
      (broadcastInDim S8x256 ![] bcast_S_S8x256 (constant S_ .f32 0x0DA24260#32))))
    (fun i => FloatOps.ofBits .f32 (lit0 (S8x256.rowMajor i)))

theorem scores_apply (b : Fin 8) (i : Fin 256) :
    scores x (ix2 b i) = Pay.score (Ideal.div (0 + ∑ d : Fin 32, ∑ h : Fin 32, ∑ w : Fin 32, x (ix5 b i d h w)) (Ideal.ofBits .f32 0x47000000#32))
      (Ideal.ofBits .f32 (lit0 (S8x256.rowMajor (ix2 b i)))) := by
  unfold scores Pay.score
  simp only [pointwise]

/-- The chosen channels of every batch, greatest score first. -/
def chosen (p : S8x256.Idx → Elt Ideal .f32) : S8x226.Idx → BitVec 32 :=
  (Host.topK S8x226 1 (FloatOps.cmpfTotal (F := Ideal) (φ := .f32) .gt) p sliceFits_S8x256_S8x226).2

/-- Two operands sorted along the rows: the second at a place. -/
theorem sort2_apply {α β : Type} (cmp : α × β → α × β → BitVec 1) (x : S8x256.Idx → α) (y : S8x256.Idx → β) (b : Fin 8) (l : Fin 256) :
    (Host.sort2 S8x256 1 cmp x y).2 (ix2 b l)
      = y (ix2 b (sortedFrom (fun k k' => cmp (x (ix2 b k), y (ix2 b k)) (x (ix2 b k'), y (ix2 b k')) == 1#1) l)) := by
  have e : ∀ a : Fin 256, ((ix2 b l : S8x256.Idx).along 1 a) = ix2 b a := fun a => by
    funext c; fin_cases c <;> rfl
  unfold Host.sort2
  rw [dif_pos (by decide)]
  refine congrArg y ((e _).trans (congrArg (ix2 b) ?_))
  exact congrArg (fun f => sortedFrom f l) (funext fun k => funext fun k' =>
    congrArg₂ (fun u v => cmp (x u, y u) (x v, y v) == 1#1) (e k) (e k'))

/-- The first columns of a row. -/
theorem first_apply {α : Type} (v : S8x256.Idx → α) (h) (b : Fin 8) (k : Fin 226) :
    extractStridedSlice S8x226 (fun _ => 0) v h (ix2 b k) = v (ix2 b (k.castLE (by decide))) := by
  simp only [pointwise]
  refine congrArg v ?_
  funext c; fin_cases c
  · exact Fin.ext (Nat.zero_add _)
  · exact Fin.ext (Nat.zero_add _)

/-- The same order and the same place give the same word. -/
theorem place_congr {before before' : Fin 256 → Fin 256 → Bool} {k k' : Fin 256} (h : ∀ a a', before a a' = before' a a') (e : k = k') :
    BitVec.ofNat 32 (sortedFrom before k).val = BitVec.ofNat 32 (sortedFrom before' k').val := by
  rw [e, show before = before' from funext fun a => funext (h a)]

theorem chosen_apply (p : S8x256.Idx → Elt Ideal .f32) (b : Fin 8) (k : Fin 226) :
    chosen p (ix2 b k) = BitVec.ofNat 32 (sortedFrom (greaterB fun i => p (ix2 b i)) (k.castLE (by decide))).val := by
  show extractStridedSlice S8x226 (fun _ => 0) (Host.sort2 S8x256 1 (fun l r => FloatOps.cmpfTotal (F := Ideal) (φ := .f32) .gt l.1 r.1) p
    (fun i => if hd : 1 < S8x256.rank then iotaInDim S8x256 32 ⟨1, hd⟩ i else 0#32)).2 sliceFits_S8x256_S8x226 (ix2 b k) = _
  refine (first_apply _ _ b k).trans ((sort2_apply _ _ _ b _).trans ?_)
  refine place_congr (fun a a' => ?_) rfl
  show (BitVec.ofBool (decide (p (ix2 b a') < p (ix2 b a))) == 1#1) = decide (p (ix2 b a') < p (ix2 b a))
  cases decide (p (ix2 b a') < p (ix2 b a)) <;> rfl

/-- The index pairs the scatter reads: the batch and the channel, each with a negative one moved up. -/
def pairs (q : S8x226.Idx → BitVec 32) : S8x226x2.Idx → BitVec 32 :=
  concatenate S8x226x2 2 [⟨S8x226x1, (broadcastInDim S8x226x1 ![0, 1] bcast_S8x226_S8x226x1_0_1 (broadcastInDim S8x226 ![0, 1] bcast_S8x1_S8x226_0_1
      (select (cmpi .slt (broadcastInDim S8x1 ![0] bcast_S8_S8x1_0 (iotaInDim S8 32 0)) (broadcastInDim S8x1 ![] bcast_S_S8x1 (constantI S_ 32 0#32)))
        (addi (broadcastInDim S8x1 ![0] bcast_S8_S8x1_0 (iotaInDim S8 32 0)) (broadcastInDim S8x1 ![] bcast_S_S8x1 (constantI S_ 32 8#32)))
        (broadcastInDim S8x1 ![0] bcast_S8_S8x1_0 (iotaInDim S8 32 0)))))⟩,
    ⟨S8x226x1, (broadcastInDim S8x226x1 ![0, 1] bcast_S8x226_S8x226x1_0_1
      (select (cmpi .slt q (broadcastInDim S8x226 ![] bcast_S_S8x226 (constantI S_ 32 0#32)))
        (addi q (broadcastInDim S8x226 ![] bcast_S_S8x226 (constantI S_ 32 256#32))) q))⟩] concatenates_S8x226x1_S8x226x1_S8x226x2_d2

/-- The two columns of the pairs. -/
theorem concat_0 (A B : S8x226x1.Idx → BitVec 32) (b : Fin 8) (k : Fin 226) :
    concatenate S8x226x2 2 [⟨S8x226x1, A⟩, ⟨S8x226x1, B⟩] concatenates_S8x226x1_S8x226x1_S8x226x2_d2 (ix3 b k 0) = A (ix3 b k 0) := by
  rw [concatenate_pair_apply]
  refine (dif_pos (show 0 < 1 by decide)).trans (congrArg A ?_)
  funext a
  fin_cases a <;> rfl
theorem concat_1 (A B : S8x226x1.Idx → BitVec 32) (b : Fin 8) (k : Fin 226) :
    concatenate S8x226x2 2 [⟨S8x226x1, A⟩, ⟨S8x226x1, B⟩] concatenates_S8x226x1_S8x226x1_S8x226x2_d2 (ix3 b k 1) = B (ix3 b k 0) := by
  rw [concatenate_pair_apply]
  refine (dif_neg (show ¬ 1 < 1 by decide)).trans (congrArg B ?_)
  funext a
  fin_cases a <;> rfl

/-- An index that is not negative is taken as it is. -/
theorem wrap_word (w n : BitVec 32) (h : w.toNat < 2 ^ 31) : Scalar.select (IntOp.cmpi .slt w 0#32) (IntOp.addi w n) w = w := by
  have e : IntOp.cmpi .slt w 0#32 = 0#1 := by
    show BitVec.ofBool (w.slt 0#32) = 0#1
    rw [BitVec.slt_eq_decide, BitVec.toInt_eq_toNat_of_lt (by omega)]
    rw [decide_eq_false (by simp)]; rfl
  rw [e]
  rfl

theorem pairs_0 (q : S8x226.Idx → BitVec 32) (b : Fin 8) (k : Fin 226) : pairs q (ix3 b k 0) = BitVec.ofNat 32 b.val := by
  unfold pairs
  rw [concat_0]
  simp only [pointwise]
  exact wrap_word (BitVec.ofNat 32 b.val) 8#32 (by have := b.isLt; simp; omega)
theorem pairs_1 (q : S8x226.Idx → BitVec 32) (b : Fin 8) (k : Fin 226) (h : (q (ix2 b k)).toNat < 2 ^ 31) :
    pairs q (ix3 b k 1) = q (ix2 b k) := by
  unfold pairs
  rw [concat_1]
  simp only [pointwise]
  exact wrap_word (q (ix2 b k)) 256#32 h

open ScatterToDense in
/-- Ones set over zeros: one exactly in the columns named. -/
theorem GS_one (word : ℕ → BitVec 32) (col n : ℕ) :
    GS word (fun _ => (1 : EReal)) 0 col n = if ∃ k < n, col = (word k).toNat then 1 else 0 := by
  classical
  induction n with
  | zero => rw [GS_zero, if_neg (by rintro ⟨k, hk, _⟩; omega)]
  | succ n ih =>
    rw [GS_succ, ih]
    by_cases h : col = (word n).toNat
    · rw [if_pos h, if_pos ⟨n, n.lt_succ_self, h⟩]
    · rw [if_neg h]
      refine if_congr ⟨fun ⟨k, hk, e⟩ => ⟨k, by omega, e⟩, fun ⟨k, hk, e⟩ => ⟨k, ?_, e⟩⟩ rfl rfl
      rcases Nat.lt_succ_iff_lt_or_eq.mp hk with hk | rfl
      · exact hk
      · exact absurd e h

/-- The mask before the draws: one at the chosen channels, zero elsewhere. -/
def kept (q : S8x226.Idx → BitVec 32) : S8x256.Idx → Elt Ideal .f32 :=
  Host.scatter scatter_S8x256_S8x226x2_S8x226_n_01_01_2 (fun _ b => b) (broadcastInDim S8x256 ![] bcast_S_S8x256 (constant (F := Ideal) S_ .f32 0x00000000#32))
    (pairs q) (broadcastInDim S8x226 ![] bcast_S_S8x226 (constant (F := Ideal) S_ .f32 0x3F800000#32))

theorem kept_apply (p : S8x256.Idx → Elt Ideal .f32) (b : Fin 8) (i : Fin 256) :
    kept (chosen p) (ix2 b i) = if rank (fun k => p (ix2 b k)) i < 226 then 1 else 0 := by
  classical
  have hw : ∀ (b : Fin 8) (k : Fin 226), (chosen p (ix2 b k)).toNat
      = (sortedFrom (greaterB fun i => p (ix2 b i)) (k.castLE (by decide))).val := fun b k => by
    rw [chosen_apply, BitVec.toNat_ofNat, Nat.mod_eq_of_lt]
    exact lt_trans (Fin.isLt _) (by decide)
  unfold kept
  refine (ScatterToDense.scatter_eq_GS (T := 8) (C := 256) (K := 226) scatter_S8x256_S8x226x2_S8x226_n_01_01_2 rfl rfl rfl (by decide) (by decide) _ _ _
    (fun b k => if h : k < 226 then chosen p (ix2 b ⟨k, h⟩) else 0#32) (fun _ _ => (1 : EReal)) (pairs_0 _)
    (fun b k => ?_) (fun b k => ?_) b i).trans ?_
  · rw [dif_pos k.isLt]
    exact pairs_1 _ b k (by rw [hw]; exact lt_trans (Fin.isLt _) (by decide))
  · simp only [pointwise]
  · simp only [pointwise]
    refine (GS_one _ _ _).trans (if_congr ?_ rfl rfl)
    rw [← mem_first_iff (fun k => p (ix2 b k)) (show 226 ≤ 256 by decide) i]
    constructor
    · rintro ⟨k, hk, e⟩
      rw [dif_pos hk, hw] at e
      exact ⟨⟨k, hk⟩, Fin.ext e.symm⟩
    · rintro ⟨k, e⟩
      refine ⟨k.val, k.isLt, ?_⟩
      rw [dif_pos k.isLt, hw]
      exact (congrArg Fin.val e).symm

/-- The bits of a draw's compare as a number. -/
theorem unsigned_of_bit (P : Prop) [Decidable P] :
    (FloatOps.uitofp .f32 (BitVec.ofBool (decide P)) : Ideal .f32) = if P then 1 else 0 := by
  by_cases h : P
  · show ((((BitVec.ofBool (decide P)).toNat : ℕ) : ℝ) : EReal) = _
    rw [if_pos h, decide_eq_true h]; simp
  · show ((((BitVec.ofBool (decide P)).toNat : ℕ) : ℝ) : EReal) = _
    rw [if_neg h, decide_eq_false h]; simp

/-- The reference's result of an argument. -/
def value : S8x256x32x32x32.Idx → Elt Ideal .f32 :=
  mulf (F := Ideal) (φ := .f32) x (broadcastInDim S8x256x32x32x32 ![0, 1, 2, 3, 4] bcast_S8x256x1x1x1_S8x256x32x32x32_0_1_2_3_4
    (broadcastInDim S8x256x1x1x1 ![0, 1] bcast_S8x256_S8x256x1x1x1_0_1
      (mulf (kept (chosen (scores x)))
        (uitofp .f32 (cmpf .ogt (fun i => FloatOps.ofBits .f32 (lit1 (S8x256.rowMajor i)))
          (broadcastInDim S8x256 ![] bcast_S_S8x256 (constant (F := Ideal) S_ .f32 0x3E460946#32)))))))

theorem value_apply (b : Fin 8) (i : Fin 256) (d h w : Fin 32) :
    value x (ix5 b i d h w) = x (ix5 b i d h w) * ((if rank (fun k => scores x (ix2 b k)) i < 226 then 1 else 0)
      * (if Ideal.ofBits .f32 0x3E460946#32 < Ideal.ofBits .f32 (lit1 (S8x256.rowMajor (ix2 b i))) then 1 else 0)) := by
  unfold value
  simp only [pointwise]
  exact congrArg (x (ix5 b i d h w) * ·) (congrArg₂ (· * ·) (kept_apply (scores x) b i) (unsigned_of_bit _))

end Cert.RefRead
-- ==== Proof.Sums.lean ====
/-
  Sums over rows: four chunks of 8192 rows are the 32768 rows, which are the 32 by 32 by 32 places of the three spatial axes; and the
  product with the reciprocal of 32768 is the division by it.
-/
module

public import Idealize.ShloMosaic.PureOps.Ideal
public import Idealize.ShloMosaic.Lib.IdealHost

@[expose] public section

noncomputable section

namespace Cert.Sums

open Idealize.ShloMosaic

/-- A sum over `a * b` numbers, as `a` runs of `b`. -/
theorem sum_runs {M : Type} [AddCommMonoid M] (g : ℕ → M) (a b : ℕ) :
    ∑ r ∈ Finset.range (a * b), g r = ∑ i ∈ Finset.range a, ∑ j ∈ Finset.range b, g (i * b + j) := by
  induction a with
  | zero => simp
  | succ a ih => rw [Nat.succ_mul, Finset.sum_range_add, ih, Finset.sum_range_succ]

/-- Four chunks of rows are the three axes' places. -/
theorem sum_chunks {M : Type} [AddCommMonoid M] (g : ℕ → M) :
    (∑ r : Fin 8192, g (0 * 8192 + r.val)) + (∑ r : Fin 8192, g (1 * 8192 + r.val)) + (∑ r : Fin 8192, g (2 * 8192 + r.val))
        + (∑ r : Fin 8192, g (3 * 8192 + r.val))
      = ∑ d : Fin 32, ∑ h : Fin 32, ∑ w : Fin 32, g (d.val * 1024 + (h.val * 32 + w.val)) := by
  have l := sum_runs g 4 8192
  have r := sum_runs g 32 1024
  have r' : ∀ d : ℕ, ∑ j ∈ Finset.range 1024, g (d * 1024 + j)
      = ∑ h ∈ Finset.range 32, ∑ w ∈ Finset.range 32, g (d * 1024 + (h * 32 + w)) := fun d =>
    sum_runs (fun j => g (d * 1024 + j)) 32 32
  simp only [r'] at r
  rw [show 4 * 8192 = 32 * 1024 from rfl] at l
  rw [l] at r
  simp only [Finset.sum_range_succ _ 3, Finset.sum_range_succ _ 2, Finset.sum_range_succ _ 1, Finset.sum_range_one] at r
  simp only [Finset.sum_range] at r
  exact r

theorem lit_rows : Ideal.ofBits .f32 0x47000000#32 = ((32768 : ℝ) : EReal) := by
  simp [Ideal.ofBits, Ideal.ieee, -EReal.coe_mul]; norm_num
theorem lit_share : Ideal.ofBits .f32 0x38000000#32 = ((32768⁻¹ : ℝ) : EReal) := by
  simp [Ideal.ofBits, Ideal.ieee, -EReal.coe_mul]; norm_num

/-- The mean, one way and the other. -/
theorem mean_eq (s : EReal) : Ideal.div (0 + s) (Ideal.ofBits .f32 0x47000000#32) = s * Ideal.ofBits .f32 0x38000000#32 := by
  rw [zero_add, lit_rows, lit_share]
  unfold Ideal.div
  rw [if_neg (by rw [← EReal.coe_zero, EReal.coe_eq_coe_iff]; norm_num), EReal.coe_inv]

end Cert.Sums
-- ==== Proof.Reading.lean ====
/-
  The kernel's term over the extended reals, read at an index: the rows, the tables, the chunks, a batch's sums, its mask row, and the
  product.
-/
module

public import proofs.«01_k».proof.Proof.Pay
public import proofs.«01_k».proof.Proof.Sums
public import proofs.«01_k».proof.Proof.Result

@[expose] public section

noncomputable section

namespace Cert.KerRead

open Cert.Kernel Cert.Kernel.Gen Cert.Kernel.Hand Cert.Rank
open Idealize.ShloMosaic

variable (c : Dev nD) (x : S8x256x32x32x32.Idx → Elt Ideal .f32)

/-- Row `r` of batch `b`, channel `i`: the argument at the row's place. -/
def at_ (b : Fin 8) (i : Fin 256) (r : ℕ) : Elt Ideal .f32 :=
  x (ix5 b i ⟨r / 1024 % 32, Nat.mod_lt _ (by decide)⟩ ⟨r / 32 % 32, Nat.mod_lt _ (by decide)⟩ ⟨r % 32, Nat.mod_lt _ (by decide)⟩)

/-- The rows, the way back, the tables, a table's row and a chunk, at an index. -/
theorem rowsOf_apply (b : Fin 8) (r : Fin 32768) (i : Fin 256) : rowsOf x (ix3 b r i) = at_ x b i r.val := by
  unfold rowsOf at_
  simp only [pointwise]
  have e : r.val / 1024 % 32 = r.val / 1024 := Nat.mod_eq_of_lt (by omega)
  simp only [e]

theorem ofRows_apply (y : S8x32768x256.Idx → Elt Ideal .f32) (b : Fin 8) (i : Fin 256) (d h w : Fin 32) :
    ofRows y (ix5 b i d h w) = y (ix3 b ⟨d.val * 1024 + (h.val * 32 + w.val), by omega⟩ i) := by
  unfold ofRows
  simp only [pointwise]
  simp only [Nat.add_assoc]

theorem noise_apply (b : Fin 8) (i : Fin 256) : noise (F := Ideal) (ix3 b 0 i) = Ideal.ofBits .f32 (lit0 (S8x256.rowMajor (ix2 b i))) := by
  unfold noise
  simp only [pointwise]
  rfl

theorem draws_apply (b : Fin 8) (i : Fin 256) : draws (F := Ideal) (ix3 b 0 i) = Ideal.ofBits .f32 (lit1 (S8x256.rowMajor (ix2 b i))) := by
  unfold draws
  simp only [pointwise]
  rfl

theorem tabRow_apply (T : S8x1x256.Idx → Elt Ideal .f32) (v : Fin 8) (i : Fin 256) : tabRow T v (ix3 0 0 i) = T (ix3 v 0 i) := by
  unfold tabRow
  refine congrArg T ?_
  funext a
  fin_cases a <;> refine Fin.ext ?_
  · show v.val + 1 * 0 = v.val; omega
  · rfl
  · show 0 + 1 * i.val = i.val; omega

theorem blk_apply (X : S8x32768x256.Idx → Elt Ideal .f32) (b : Fin 32) (r : Fin 8192) (i : Fin 256) :
    blk c X b (ix3 0 r i) = X (ix3 ⟨b.val / 4, by omega⟩ ⟨b.val % 4 * 8192 + r.val, by omega⟩ i) := by
  show X ((rowR b).emb (ix3 0 r i)) = _
  refine congrArg X ?_
  funext a
  fin_cases a <;> refine Fin.ext ?_
  · rfl
  · show b.val % 4 * 8192 + 1 * r.val = b.val % 4 * 8192 + r.val; omega
  · show 0 + 1 * i.val = i.val; omega

/-- Row `r` of chunk `k` of batch `v`. -/
theorem blk_at (v : Fin 8) (k : Fin 4) (r : Fin 8192) (i : Fin 256) :
    blk c (rowsOf x) (ch (4 * v.val + k.val)) (ix3 0 r i) = at_ x v i (k.val * 8192 + r.val) := by
  rw [blk_apply]
  have e : (4 * v.val + k.val) % 32 = 4 * v.val + k.val := Nat.mod_eq_of_lt (by omega)
  have e₁ : (⟨(ch (4 * v.val + k.val)).val / 4, by omega⟩ : Fin 8) = v := Fin.ext (by
    show (4 * v.val + k.val) % 32 / 4 = v.val; omega)
  have e₂ : (ch (4 * v.val + k.val)).val % 4 = k.val := by
    show (4 * v.val + k.val) % 32 % 4 = k.val; omega
  simp only [e₁, e₂]
  exact rowsOf_apply x v _ i

theorem at_place (b : Fin 8) (i : Fin 256) (d h w : Fin 32) : at_ x b i (d.val * 1024 + (h.val * 32 + w.val)) = x (ix5 b i d h w) := by
  unfold at_
  have e₁ : (⟨(d.val * 1024 + (h.val * 32 + w.val)) / 1024 % 32, Nat.mod_lt _ (by decide)⟩ : Fin 32) = d := Fin.ext (by
    show (d.val * 1024 + (h.val * 32 + w.val)) / 1024 % 32 = d.val; omega)
  have e₂ : (⟨(d.val * 1024 + (h.val * 32 + w.val)) / 32 % 32, Nat.mod_lt _ (by decide)⟩ : Fin 32) = h := Fin.ext (by
    show (d.val * 1024 + (h.val * 32 + w.val)) / 32 % 32 = h.val; omega)
  have e₃ : (⟨(d.val * 1024 + (h.val * 32 + w.val)) % 32, Nat.mod_lt _ (by decide)⟩ : Fin 32) = w := Fin.ext (by
    show (d.val * 1024 + (h.val * 32 + w.val)) % 32 = w.val; omega)
  rw [e₁, e₂, e₃]

/-- A batch's sums after its last chunk are the sums over the three axes. -/
theorem tot_apply (v : Fin 8) (i : Fin 256) :
    tot c (rowsOf x) (4 * v.val + 3) (ix2 0 i) = ∑ d : Fin 32, ∑ h : Fin 32, ∑ w : Fin 32, x (ix5 v i d h w) := by
  rw [tot_next c (rowsOf x) (show ¬ (4 * v.val + 3) % 4 = 0 by omega), Pay.pay4_apply, show 4 * v.val + 3 - 1 = 4 * v.val + 2 by omega,
    tot_next c (rowsOf x) (show ¬ (4 * v.val + 2) % 4 = 0 by omega), Pay.pay4_apply, show 4 * v.val + 2 - 1 = 4 * v.val + 1 by omega,
    tot_next c (rowsOf x) (show ¬ (4 * v.val + 1) % 4 = 0 by omega), Pay.pay4_apply, show 4 * v.val + 1 - 1 = 4 * v.val + 0 by omega,
    tot_first c (rowsOf x) (show (4 * v.val + 0) % 4 = 0 by omega), Pay.pay3_apply]
  refine (congrArg₂ (· + ·) (congrArg₂ (· + ·) (congrArg₂ (· + ·)
    (Finset.sum_congr rfl fun r _ => blk_at c x v 0 r i) (Finset.sum_congr rfl fun r _ => blk_at c x v 1 r i))
    (Finset.sum_congr rfl fun r _ => blk_at c x v 2 r i)) (Finset.sum_congr rfl fun r _ => blk_at c x v 3 r i)).trans ?_
  refine (Sums.sum_chunks (at_ x v i)).trans ?_
  simp only [at_place]

/-- The scores of batch `v`, from the sums. -/
def scoreAt (v : Fin 8) (i : Fin 256) : EReal :=
  Pay.score ((∑ d : Fin 32, ∑ h : Fin 32, ∑ w : Fin 32, x (ix5 v i d h w)) * Ideal.ofBits .f32 0x38000000#32)
    (Ideal.ofBits .f32 (lit0 (S8x256.rowMajor (ix2 v i))))

theorem maskRow_apply (v : Fin 8) (i : Fin 256) :
    maskRow c (rowsOf x) noise draws v (ix2 0 i) = if rank (scoreAt x v) i < 226
      ∧ Ideal.ofBits .f32 0x3E460946#32 < Ideal.ofBits .f32 (lit1 (S8x256.rowMajor (ix2 v i))) then 1 else 0 := by
  unfold maskRow
  rw [Pay.pay1_apply, Pay.pay5_apply, tabRow_apply, draws_apply]
  have e : (fun k => Pay.score (tot c (rowsOf x) (4 * v.val + 3) (ix2 0 k) * Ideal.ofBits .f32 0x38000000#32) (tabRow (noise (F := Ideal)) v (ix3 0 0 k)))
      = scoreAt x v := funext fun k => by
    rw [tot_apply, tabRow_apply, noise_apply]; rfl
  rw [e]
  exact if_congr (and_congr (Pay.ofBool_eq_one _) Iff.rfl) rfl rfl

/-- The kernel's result at an index. -/
theorem result_apply (b : Fin 8) (i : Fin 256) (d h w : Fin 32) :
    result c x (ix5 b i d h w) = x (ix5 b i d h w) * (if rank (scoreAt x b) i < 226
      ∧ Ideal.ofBits .f32 0x3E460946#32 < Ideal.ofBits .f32 (lit1 (S8x256.rowMajor (ix2 b i))) then 1 else 0) := by
  unfold result
  rw [ofRows_apply]
  generalize hr : (⟨d.val * 1024 + (h.val * 32 + w.val), _⟩ : Fin 32768) = r
  have hr' : r.val = d.val * 1024 + (h.val * 32 + w.val) := by rw [← hr]
  show chunkOut c (rowsOf x) noise draws (chunkOf b r) (ix3 0 (inChunk r) i) = _
  unfold chunkOut
  rw [Pay.pay6_apply]
  have hb : bat (chunkOf b r).val = b := Fin.ext (by
    show (b.val * 4 + r.val / 8192) / 4 % 8 = b.val; omega)
  rw [hb, maskRow_apply, blk_apply]
  refine congrArg (· * _) ?_
  have e₁ : (⟨(chunkOf b r).val / 4, by omega⟩ : Fin 8) = b := Fin.ext (by
    show (b.val * 4 + r.val / 8192) / 4 = b.val; omega)
  have e₂ : (⟨(chunkOf b r).val % 4 * 8192 + (inChunk r).val, by omega⟩ : Fin 32768) = r := Fin.ext (by
    show (b.val * 4 + r.val / 8192) % 4 * 8192 + r.val % 8192 = r.val; omega)
  rw [e₁, e₂, rowsOf_apply, hr', at_place]

end Cert.KerRead
-- ==== Proof.Equal.lean ====
/-
  The reference's result is the kernel's: the same scores — the mean by a division or by a product — the same ranks, the same draws.
-/
module

public import proofs.«01_k».proof.Proof.Chosen
public import proofs.«01_k».proof.Proof.Reading

@[expose] public section

noncomputable section

namespace Cert.Equal

open Cert.Rank
open Idealize.ShloMosaic

/-- Both programs state the same tables. -/
theorem tables₀ : Cert.ReferenceIdeal.lit0 = Cert.Kernel.lit0 := rfl
theorem tables₁ : Cert.ReferenceIdeal.lit1 = Cert.Kernel.lit1 := rfl

/-- A channel's score, in the reference and in the kernel. -/
theorem scores_eq (x : Cert.ReferenceIdeal.S8x256x32x32x32.Idx → Elt Ideal .f32) (b : Fin 8) (i : Fin 256) :
    Cert.RefRead.scores x (ix2 b i) = Cert.KerRead.scoreAt x b i := by
  rw [Cert.RefRead.scores_apply, Cert.Sums.mean_eq, tables₀]
  rfl

/-- The product of two ones or zeros. -/
theorem both (P Q : Prop) [Decidable P] [Decidable Q] :
    (if P then (1 : EReal) else 0) * (if Q then 1 else 0) = if P ∧ Q then 1 else 0 := by
  by_cases hP : P <;> by_cases hQ : Q <;> simp [hP, hQ]

/-- The two results are one function of the argument. -/
theorem results_equal (c : Dev Cert.Kernel.nD) (x : Cert.ReferenceIdeal.S8x256x32x32x32.Idx → Elt Ideal .f32) :
    Cert.RefRead.value x = Cert.Kernel.Hand.result (F := Ideal) c x := by
  funext j
  obtain ⟨b, i, d, h, w, rfl⟩ : ∃ (b : Fin 8) (i : Fin 256) (d h w : Fin 32), j = ix5 b i d h w := ⟨_, _, _, _, _, eq_ix5 j⟩
  rw [Cert.RefRead.value_apply, both]
  refine Eq.trans ?_ (Cert.KerRead.result_apply c x b i d h w).symm
  have e : (fun k => Cert.RefRead.scores x (ix2 b k)) = Cert.KerRead.scoreAt x b := funext (scores_eq x b)
  rw [e, tables₁]

end Cert.Equal
-- ==== Proof.lean ====
/-
  The five claims about the fused mask-and-scale kernel, put together.

  The kernel and its reading at the extended reals run, leave the argument as it was and every counter at zero (Proof/Result.lean,
  Proof/Twin.lean); so does the reference (its run is read off its list of operations). No operation was rewritten between the two
  readings. And the two results are one array (Proof/Equal.lean).
-/
module

public import proofs.«01_k».proof.Proof.Gen.ReferenceIdeal.Run
public import proofs.«01_k».proof.Defs
public import proofs.«01_k».proof.Proof.Twin
public import proofs.«01_k».proof.Proof.Equal
public import Idealize.ShloMosaic.Lib.Quiescent

@[expose] public section

noncomputable section

namespace Cert.Proof

open Idealize.ShloMosaic Idealize.SL.Sem

/-- The kernel as printed. -/
theorem quiescent_kernel : Cert.quiescent_Kernel := fun m g _ =>
  θ_run_mono (Cert.Kernel.Hand.run_result (F := Bits) m g) fun _ h => ⟨fun c => (h.1 c).2, h.2⟩
/-- The kernel at the extended reals. -/
theorem quiescent_kernelIdeal : Cert.quiescent_KernelIdeal := fun m g _ =>
  θ_run_mono (Cert.KernelIdeal.Hand.run_result (F := Ideal) m g) fun _ h => ⟨fun c => (h.1 c).2, h.2⟩
/-- The reference: it names no semaphore. -/
theorem quiescent_referenceIdeal : Cert.quiescent_ReferenceIdeal := fun m g _ =>
  θ_run_mono (Cert.ReferenceIdeal.Value.run (F := Ideal) m g) fun r h => ⟨fun c => (h c).2, sem_eq_zero_of_no_sems rfl r.2⟩

/-- The two results are equal. -/
theorem algebraic : Cert.algebraic_KernelIdeal_ReferenceIdeal := fun m g m' g' _ hm =>
  ⟨fun c => Cert.Kernel.Hand.result (F := Ideal) c (m ((c.tc : Thread Cert.KernelIdeal.nD Cert.KernelIdeal.τ).loc Cert.KernelIdeal.main_arg0)),
    θ_run_mono (Cert.KernelIdeal.Hand.run_result (F := Ideal) m g) fun _ h => h.1,
    θ_run_mono (Cert.ReferenceIdeal.Value.run (F := Ideal) m' g') fun _ h c =>
      ⟨(h c).1.trans (by rw [hm c]; exact Cert.Equal.results_equal c _), (h c).2⟩⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
